-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsIdeal_finite_heads [hPre_finite_heads : Cert.Pre_finite_heads.Facts] (m : (ℓ : Loc Cert.HeadsIdeal.nD Cert.HeadsIdeal.τ Cert.HeadsIdeal.sig) → Buf (Elt Ideal) ℓ) : Prop :=
  ∀ c : Dev Cert.HeadsIdeal.nD,
    (Cert.Pre_finite_heads.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2))) = (fun _ => 1#1)

def Pre_HeadsRefIdeal (m : (ℓ : Loc Cert.HeadsRefIdeal.nD Cert.HeadsRefIdeal.τ Cert.HeadsRefIdeal.sig) → Buf (Elt Ideal) ℓ) : Prop :=
  True

def Pre_HeadsRefIdeal_finite_heads [hPre_finite_heads : Cert.Pre_finite_heads.Facts] (m : (ℓ : Loc Cert.HeadsRefIdeal.nD Cert.HeadsRefIdeal.τ Cert.HeadsRefIdeal.sig) → Buf (Elt Ideal) ℓ) : Prop :=
  ∀ c : Dev Cert.HeadsRefIdeal.nD,
    (Cert.Pre_finite_heads.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1)) (m ((c.tc : Thread Cert.HeadsRefIdeal.nD Cert.HeadsRefIdeal.τ).loc Cert.HeadsRefIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1)
      ∧ r.2.mem ((c.tc : Thread Cert.Lora.nD Cert.Lora.τ).loc Cert.Lora.main_arg2) = m ((c.tc : Thread Cert.Lora.nD Cert.Lora.τ).loc Cert.Lora.main_arg2))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
      ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1)
      ∧ r.2.mem ((c.tc : Thread Cert.LoraRefIdeal.nD Cert.LoraRefIdeal.τ).loc Cert.LoraRefIdeal.main_arg2) = m ((c.tc : Thread Cert.LoraRefIdeal.nD Cert.LoraRefIdeal.τ).loc Cert.LoraRefIdeal.main_arg2))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ r.2.sem = fun _ => 0)

def quiescent_HeadsIdeal_pre_finite_heads [hHeadsIdeal : Cert.HeadsIdeal.Facts] [hPre_finite_heads : Cert.Pre_finite_heads.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal_finite_heads m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2))
      ∧ r.2.sem = fun _ => 0)

def quiescent_HeadsRefIdeal_pre_finite_heads [hHeadsRefIdeal : Cert.HeadsRefIdeal.Facts] [hPre_finite_heads : Cert.Pre_finite_heads.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal_finite_heads m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v17) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)
      ∧ m' ((c.tc : Thread Cert.LoraRefIdeal.nD Cert.LoraRefIdeal.τ).loc Cert.LoraRefIdeal.main_arg2) = m ((c.tc : Thread Cert.LoraIdeal.nD Cert.LoraIdeal.τ).loc Cert.LoraIdeal.main_arg2)) →
    ∃ (v0 : (c : Dev Cert.LoraIdeal.nD) → Buf (Elt Ideal) ((c.tc : Thread Cert.LoraIdeal.nD Cert.LoraIdeal.τ).loc Cert.LoraIdeal.main_v4)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v4) = v0 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
          ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v15) = v0 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1)
          ∧ r.2.mem ((c.tc : Thread Cert.LoraRefIdeal.nD Cert.LoraRefIdeal.τ).loc Cert.LoraRefIdeal.main_arg2) = m' ((c.tc : Thread Cert.LoraRefIdeal.nD Cert.LoraRefIdeal.τ).loc Cert.LoraRefIdeal.main_arg2))

def preserves_Heads_HeadsIdeal : Prop :=
  IdealRules.named_const.Statement Cert.HeadsIdeal.κ "qscale" .f32 0x3E38AA3B#32 (((1 / 8) * (Real.log 2)⁻¹ : ℝ) : EReal)

def algebraic_HeadsIdeal_HeadsRefIdeal_pre_finite_heads [hHeadsIdeal : Cert.HeadsIdeal.Facts] [hHeadsRefIdeal : Cert.HeadsRefIdeal.Facts] [hPre_finite_heads : Cert.Pre_finite_heads.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal_finite_heads m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)) →
    ∃ (v0 : (c : Dev Cert.HeadsIdeal.nD) → Buf (Elt Ideal) ((c.tc : Thread Cert.HeadsIdeal.nD Cert.HeadsIdeal.τ).loc Cert.HeadsIdeal.main_v17_0)) (v1 : (c : Dev Cert.HeadsIdeal.nD) → Buf (Elt Ideal) ((c.tc : Thread Cert.HeadsIdeal.nD Cert.HeadsIdeal.τ).loc Cert.HeadsIdeal.main_v17_1)) (v2 : (c : Dev Cert.HeadsIdeal.nD) → Buf (Elt Ideal) ((c.tc : Thread Cert.HeadsIdeal.nD Cert.HeadsIdeal.τ).loc Cert.HeadsIdeal.main_v17_2)) (v3 : (c : Dev Cert.HeadsIdeal.nD) → Buf (Elt Ideal) ((c.tc : Thread Cert.HeadsIdeal.nD Cert.HeadsIdeal.τ).loc Cert.HeadsIdeal.main_v17_3)) (v4 : (c : Dev Cert.HeadsIdeal.nD) → Buf (Elt Ideal) ((c.tc : Thread Cert.HeadsIdeal.nD Cert.HeadsIdeal.τ).loc Cert.HeadsIdeal.main_v17_4)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v17_0) = v0 c
          ∧ r.2.mem ((c.tc : Thread Cert.HeadsIdeal.nD Cert.HeadsIdeal.τ).loc Cert.HeadsIdeal.main_v17_1) = v1 c
          ∧ r.2.mem ((c.tc : Thread Cert.HeadsIdeal.nD Cert.HeadsIdeal.τ).loc Cert.HeadsIdeal.main_v17_2) = v2 c
          ∧ r.2.mem ((c.tc : Thread Cert.HeadsIdeal.nD Cert.HeadsIdeal.τ).loc Cert.HeadsIdeal.main_v17_3) = v3 c
          ∧ r.2.mem ((c.tc : Thread Cert.HeadsIdeal.nD Cert.HeadsIdeal.τ).loc Cert.HeadsIdeal.main_v17_4) = v4 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v47) = v0 c
          ∧ r.2.mem ((c.tc : Thread Cert.HeadsRefIdeal.nD Cert.HeadsRefIdeal.τ).loc Cert.HeadsRefIdeal.main_v48) = v1 c
          ∧ r.2.mem ((c.tc : Thread Cert.HeadsRefIdeal.nD Cert.HeadsRefIdeal.τ).loc Cert.HeadsRefIdeal.main_v34) = v2 c
          ∧ r.2.mem ((c.tc : Thread Cert.HeadsRefIdeal.nD Cert.HeadsRefIdeal.τ).loc Cert.HeadsRefIdeal.main_v49) = v3 c
          ∧ r.2.mem ((c.tc : Thread Cert.HeadsRefIdeal.nD Cert.HeadsRefIdeal.τ).loc Cert.HeadsRefIdeal.main_v50) = v4 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v8)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v250) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hLora : Cert.Lora.Facts) (hLoraIdeal : Cert.LoraIdeal.Facts) (hLoraRefIdeal : Cert.LoraRefIdeal.Facts) (hHeads : Cert.Heads.Facts) (hHeadsIdeal : Cert.HeadsIdeal.Facts) (hHeadsRefIdeal : Cert.HeadsRefIdeal.Facts) (hConv : Cert.Conv.Facts) (hConvIdeal : Cert.ConvIdeal.Facts) (hConvRefIdeal : Cert.ConvRefIdeal.Facts) (hPre_finite_heads : Cert.Pre_finite_heads.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Lora (hLora := hLora)
    ∧ quiescent_LoraIdeal (hLoraIdeal := hLoraIdeal)
    ∧ quiescent_LoraRefIdeal (hLoraRefIdeal := hLoraRefIdeal)
    ∧ quiescent_Heads (hHeads := hHeads)
    ∧ quiescent_HeadsIdeal (hHeadsIdeal := hHeadsIdeal)
    ∧ quiescent_HeadsIdeal_pre_finite_heads (hHeadsIdeal := hHeadsIdeal) (hPre_finite_heads := hPre_finite_heads)
    ∧ quiescent_HeadsRefIdeal (hHeadsRefIdeal := hHeadsRefIdeal)
    ∧ quiescent_HeadsRefIdeal_pre_finite_heads (hHeadsRefIdeal := hHeadsRefIdeal) (hPre_finite_heads := hPre_finite_heads)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Lora_LoraIdeal
    ∧ algebraic_LoraIdeal_LoraRefIdeal (hLoraIdeal := hLoraIdeal) (hLoraRefIdeal := hLoraRefIdeal)
    ∧ preserves_Heads_HeadsIdeal
    ∧ algebraic_HeadsIdeal_HeadsRefIdeal_pre_finite_heads (hHeadsIdeal := hHeadsIdeal) (hHeadsRefIdeal := hHeadsRefIdeal) (hPre_finite_heads := hPre_finite_heads)
    ∧ preserves_Conv_ConvIdeal
    ∧ algebraic_ConvIdeal_ConvRefIdeal (hConvIdeal := hConvIdeal) (hConvRefIdeal := hConvRefIdeal)
-- ==== Pre_finite_heads.lean ====
abbrev S16384x14336 : Shape := ⟨2, ![16384, 14336]⟩
abbrev S64 : Shape := ⟨1, ![64]⟩
abbrev S16384x2048 : Shape := ⟨2, ![16384, 2048]⟩
abbrev S_ : Shape := ⟨0, ![]⟩

class Facts : Prop where
  slices_S16384x14336_S16384x2048_0_3072 : S16384x14336.Slices ![0, 3072] S16384x2048
  bcast_S_S16384x2048 : S_.BroadcastsInDim S16384x2048 (![] : Fin 0 → Fin S16384x2048.rank)

variable [Facts]

def fn {F : FTy → Type} [FloatOps F] (main_arg0 : FVec F S16384x14336 .f32) (main_arg1 : FVec F S64 .f32) (main_arg2 : FVec F S64 .f32) : IVec S16384x2048 1 :=
  let main_v0 : FVec F S16384x2048 .f32 := (extractStridedSlice S16384x2048 ![0, 3072] · slices_S16384x14336_S16384x2048_0_3072) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  main_v3
-- ==== Kernel.lean ====
abbrev S2x8192x16x64 : Shape := ⟨4, ![2, 8192, 16, 64]⟩
abbrev S2x8192x14336 : Shape := ⟨3, ![2, 8192, 14336]⟩
abbrev S16 : Shape := ⟨1, ![16]⟩
abbrev S_ : Shape := ⟨0, ![]⟩
abbrev S2x8192x1024 : Shape := ⟨3, ![2, 8192, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x128 : Shape := ⟨3, ![1, 256, 128]⟩
abbrev S1x8192x128 : Shape := ⟨3, ![1, 8192, 128]⟩
abbrev S2x256x256 : Shape := ⟨3, ![2, 256, 256]⟩
abbrev S2x256x128 : Shape := ⟨3, ![2, 256, 128]⟩
abbrev S256x128 : Shape := ⟨2, ![256, 128]⟩
abbrev S1 : Shape := ⟨1, ![1]⟩
abbrev S32x256 : Shape := ⟨2, ![32, 256]⟩
abbrev S1x32x256 : Shape := ⟨3, ![1, 32, 256]⟩
abbrev S32x128 : Shape := ⟨2, ![32, 128]⟩
abbrev S1x32x128 : Shape := ⟨3, ![1, 32, 128]⟩
abbrev S1x256x256 : Shape := ⟨3, ![1, 256, 256]⟩

abbrev nBuf : Space → Nat
  | .hbm => 26
  | .vmem => 15
  | .smem => 1
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S2x8192x14336, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8192x16x64, .f32⟩
  | .hbm, ⟨11, _⟩ => ⟨S2x8192x16x64, .f32⟩
  | .hbm, ⟨12, _⟩ => ⟨S2x8192x16x64, .bf16⟩
  | .hbm, ⟨13, _⟩ => ⟨S2x8192x1024, .bf16⟩
  | .hbm, ⟨14, _⟩ => ⟨S2x8192x16x64, .bf16⟩
  | .hbm, ⟨15, _⟩ => ⟨S2x8192x1024, .bf16⟩
  | .hbm, ⟨16, _⟩ => ⟨S2x8192x16x64, .bf16⟩
  | .hbm, ⟨17, _⟩ => ⟨S2x8192x1024, .bf16⟩
  | .hbm, ⟨18, _⟩ => ⟨S256, .i32⟩
  | .hbm, ⟨19, _⟩ => ⟨S256x1, .i32⟩
  | .hbm, ⟨20, _⟩ => ⟨S1x256, .i32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S256x256, .bf16⟩
  | .hbm, ⟨25, _⟩ => ⟨S2x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .f32⟩
  | .local _ .vmem, ⟨7, _⟩ => ⟨S1x256x128, .f32⟩
  | .local _ .vmem, ⟨8, _⟩ => ⟨S256x256, .bf16⟩
  | .local _ .vmem, ⟨9, _⟩ => ⟨S1x256x128, .bf16⟩
  | .local _ .vmem, ⟨10, _⟩ => ⟨S1x256x128, .bf16⟩
  | .local _ .vmem, ⟨11, _⟩ => ⟨S2x256x256, .bf16⟩
  | .local _ .vmem, ⟨12, _⟩ => ⟨S2x256x256, .f32⟩
  | .local _ .vmem, ⟨13, _⟩ => ⟨S2x256x256, .bf16⟩
  | .local _ .vmem, ⟨14, _⟩ => ⟨S2x256x128, .f32⟩
  | .local _ .smem, ⟨0, _⟩ => ⟨S16, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 32], ![false, false, false]⟩

def k0_off1 (i : grid0.Coords) : Fin 1 → Nat :=
  let c2_i32 : BitVec 32 := 2#32
  let arg1 : BitVec 32 := BitVec.ofNat 32 (i 1).val
  let v12 : BitVec 32 := Scalar.muli c2_i32 arg1
  let v13 : Index := Scalar.indexCast v12
  ![v13.toNat]
def k0_off2 (i : grid0.Coords) : Fin 1 → Nat :=
  let c2_i32_5 : BitVec 32 := 2#32
  let arg1 : BitVec 32 := BitVec.ofNat 32 (i 1).val
  let v16 : BitVec 32 := Scalar.muli c2_i32_5 arg1
  let c1_i32 : BitVec 32 := 1#32
  let v17 : BitVec 32 := Scalar.addi v16 c1_i32
  let v18 : Index := Scalar.indexCast v17
  ![v18.toNat]
def k0_mult1 (i : grid0.Coords) : BitVec 32 :=
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c256_i32_17 : BitVec 32 := 256#32
  let v45 : BitVec 32 := Scalar.muli v44 c256_i32_17
  v45
def k0_off3 (i : grid0.Coords) : Fin 3 → Nat :=
  let c0_18 : Index := 0#32
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c256_i32_17 : BitVec 32 := 256#32
  let v45 : BitVec 32 := Scalar.muli v44 c256_i32_17
  let v46 : BitVec 32 := v45
  let v47 : Index := Scalar.indexCast v46
  let c0_19 : Index := 0#32
  ![0, v47.toNat, 0]
def k0_mult2 (i : grid0.Coords) : BitVec 32 :=
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_486 : BitVec 32 := 1#32
  let v1000 : BitVec 32 := Scalar.subi v44 c1_i32_486
  let c0_i32_487 : BitVec 32 := 0#32
  let v1001 : BitVec 32 := Scalar.maxsi v1000 c0_i32_487
  let c256_i32_488 : BitVec 32 := 256#32
  let v1002 : BitVec 32 := Scalar.muli v1001 c256_i32_488
  v1002
def k0_off4 (i : grid0.Coords) : Fin 3 → Nat :=
  let c0_489 : Index := 0#32
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_486 : BitVec 32 := 1#32
  let v1000 : BitVec 32 := Scalar.subi v44 c1_i32_486
  let c0_i32_487 : BitVec 32 := 0#32
  let v1001 : BitVec 32 := Scalar.maxsi v1000 c0_i32_487
  let c256_i32_488 : BitVec 32 := 256#32
  let v1002 : BitVec 32 := Scalar.muli v1001 c256_i32_488
  let v1003 : BitVec 32 := v1002
  let v1004 : Index := Scalar.indexCast v1003
  let c0_490 : Index := 0#32
  ![0, v1004.toNat, 0]
@[reducible] def k0_t1_loop (i : grid0.Coords) : Scf.Loop 32 :=
  let c0_i32_493 : BitVec 32 := 0#32
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let v1009 : BitVec 32 := Scalar.subi v44 c0_i32_493
  let c1_i32_494 : BitVec 32 := 1#32
  let v1011 : BitVec 32 := Scalar.divsi v1009 c1_i32_494
  let v1012 : BitVec 32 := Scalar.muli v1011 c1_i32_494
  let v1013 : BitVec 32 := Scalar.addi c0_i32_493 v1012
  let c1_i32_495 : BitVec 32 := 1#32
  ⟨c0_i32_493, v1013, c1_i32_495⟩
def k0_mult3 (i : grid0.Coords) (k0_t1 : Fin (k0_t1_loop i).trips) : BitVec 32 :=
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_519 : BitVec 32 := 1#32
  let v1050 : BitVec 32 := Scalar.subi v44 c1_i32_519
  let c0_i32_493 : BitVec 32 := 0#32
  let c1_i32_495 : BitVec 32 := 1#32
  let arg14 : BitVec 32 := Scf.iv c0_i32_493 c1_i32_495 k0_t1
  let v1051 : BitVec 32 := Scalar.subi v1050 arg14
  let c1_i32_520 : BitVec 32 := 1#32
  let v1052 : BitVec 32 := Scalar.subi v1051 c1_i32_520
  let c0_i32_521 : BitVec 32 := 0#32
  let v1053 : BitVec 32 := Scalar.maxsi v1052 c0_i32_521
  let c256_i32_522 : BitVec 32 := 256#32
  let v1054 : BitVec 32 := Scalar.muli v1053 c256_i32_522
  v1054
def k0_off5 (i : grid0.Coords) (k0_t1 : Fin (k0_t1_loop i).trips) : Fin 3 → Nat :=
  let c0_523 : Index := 0#32
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_519 : BitVec 32 := 1#32
  let v1050 : BitVec 32 := Scalar.subi v44 c1_i32_519
  let c0_i32_493 : BitVec 32 := 0#32
  let c1_i32_495 : BitVec 32 := 1#32
  let arg14 : BitVec 32 := Scf.iv c0_i32_493 c1_i32_495 k0_t1
  let v1051 : BitVec 32 := Scalar.subi v1050 arg14
  let c1_i32_520 : BitVec 32 := 1#32
  let v1052 : BitVec 32 := Scalar.subi v1051 c1_i32_520
  let c0_i32_521 : BitVec 32 := 0#32
  let v1053 : BitVec 32 := Scalar.maxsi v1052 c0_i32_521
  let c256_i32_522 : BitVec 32 := 256#32
  let v1054 : BitVec 32 := Scalar.muli v1053 c256_i32_522
  let v1055 : BitVec 32 := v1054
  let v1056 : Index := Scalar.indexCast v1055
  let c0_524 : Index := 0#32
  ![0, v1056.toNat, 0]
def k0_mult4 (i : grid0.Coords) (k0_t1 : Fin (k0_t1_loop i).trips) : BitVec 32 :=
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_519 : BitVec 32 := 1#32
  let v1050 : BitVec 32 := Scalar.subi v44 c1_i32_519
  let c0_i32_493 : BitVec 32 := 0#32
  let c1_i32_495 : BitVec 32 := 1#32
  let arg14 : BitVec 32 := Scf.iv c0_i32_493 c1_i32_495 k0_t1
  let v1051 : BitVec 32 := Scalar.subi v1050 arg14
  let c1_i32_527 : BitVec 32 := 1#32
  let v1061 : BitVec 32 := Scalar.addi v1051 c1_i32_527
  let c256_i32_528 : BitVec 32 := 256#32
  let v1062 : BitVec 32 := Scalar.muli v1061 c256_i32_528
  v1062
def k0_off6 (i : grid0.Coords) (k0_t1 : Fin (k0_t1_loop i).trips) : Fin 3 → Nat :=
  let c0_529 : Index := 0#32
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_519 : BitVec 32 := 1#32
  let v1050 : BitVec 32 := Scalar.subi v44 c1_i32_519
  let c0_i32_493 : BitVec 32 := 0#32
  let c1_i32_495 : BitVec 32 := 1#32
  let arg14 : BitVec 32 := Scf.iv c0_i32_493 c1_i32_495 k0_t1
  let v1051 : BitVec 32 := Scalar.subi v1050 arg14
  let c1_i32_527 : BitVec 32 := 1#32
  let v1061 : BitVec 32 := Scalar.addi v1051 c1_i32_527
  let c256_i32_528 : BitVec 32 := 256#32
  let v1062 : BitVec 32 := Scalar.muli v1061 c256_i32_528
  let v1063 : BitVec 32 := v1062
  let v1064 : Index := Scalar.indexCast v1063
  let c0_530 : Index := 0#32
  ![0, v1064.toNat, 0]
@[reducible] def k0_t2_loop (i : grid0.Coords) : Scf.Loop 32 :=
  let c0_i32_493 : BitVec 32 := 0#32
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let v1009 : BitVec 32 := Scalar.subi v44 c0_i32_493
  let c1_i32_494 : BitVec 32 := 1#32
  let v1011 : BitVec 32 := Scalar.divsi v1009 c1_i32_494
  let v1012 : BitVec 32 := Scalar.muli v1011 c1_i32_494
  let v1013 : BitVec 32 := Scalar.addi c0_i32_493 v1012
  let v1010 : BitVec 32 := Scalar.addi c0_i32_493 v1009
  let c1_i32_496 : BitVec 32 := 1#32
  ⟨v1013, v1010, c1_i32_496⟩
def k0_mult5 (i : grid0.Coords) (k0_t2 : Fin (k0_t2_loop i).trips) : BitVec 32 :=
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_519 : BitVec 32 := 1#32
  let v1050 : BitVec 32 := Scalar.subi v44 c1_i32_519
  let c0_i32_493 : BitVec 32 := 0#32
  let v1009 : BitVec 32 := Scalar.subi v44 c0_i32_493
  let c1_i32_494 : BitVec 32 := 1#32
  let v1011 : BitVec 32 := Scalar.divsi v1009 c1_i32_494
  let v1012 : BitVec 32 := Scalar.muli v1011 c1_i32_494
  let v1013 : BitVec 32 := Scalar.addi c0_i32_493 v1012
  let c1_i32_496 : BitVec 32 := 1#32
  let arg14 : BitVec 32 := Scf.iv v1013 c1_i32_496 k0_t2
  let v1051 : BitVec 32 := Scalar.subi v1050 arg14
  let c1_i32_520 : BitVec 32 := 1#32
  let v1052 : BitVec 32 := Scalar.subi v1051 c1_i32_520
  let c0_i32_521 : BitVec 32 := 0#32
  let v1053 : BitVec 32 := Scalar.maxsi v1052 c0_i32_521
  let c256_i32_522 : BitVec 32 := 256#32
  let v1054 : BitVec 32 := Scalar.muli v1053 c256_i32_522
  v1054
def k0_off7 (i : grid0.Coords) (k0_t2 : Fin (k0_t2_loop i).trips) : Fin 3 → Nat :=
  let c0_523 : Index := 0#32
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_519 : BitVec 32 := 1#32
  let v1050 : BitVec 32 := Scalar.subi v44 c1_i32_519
  let c0_i32_493 : BitVec 32 := 0#32
  let v1009 : BitVec 32 := Scalar.subi v44 c0_i32_493
  let c1_i32_494 : BitVec 32 := 1#32
  let v1011 : BitVec 32 := Scalar.divsi v1009 c1_i32_494
  let v1012 : BitVec 32 := Scalar.muli v1011 c1_i32_494
  let v1013 : BitVec 32 := Scalar.addi c0_i32_493 v1012
  let c1_i32_496 : BitVec 32 := 1#32
  let arg14 : BitVec 32 := Scf.iv v1013 c1_i32_496 k0_t2
  let v1051 : BitVec 32 := Scalar.subi v1050 arg14
  let c1_i32_520 : BitVec 32 := 1#32
  let v1052 : BitVec 32 := Scalar.subi v1051 c1_i32_520
  let c0_i32_521 : BitVec 32 := 0#32
  let v1053 : BitVec 32 := Scalar.maxsi v1052 c0_i32_521
  let c256_i32_522 : BitVec 32 := 256#32
  let v1054 : BitVec 32 := Scalar.muli v1053 c256_i32_522
  let v1055 : BitVec 32 := v1054
  let v1056 : Index := Scalar.indexCast v1055
  let c0_524 : Index := 0#32
  ![0, v1056.toNat, 0]
def k0_mult6 (i : grid0.Coords) (k0_t2 : Fin (k0_t2_loop i).trips) : BitVec 32 :=
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_519 : BitVec 32 := 1#32
  let v1050 : BitVec 32 := Scalar.subi v44 c1_i32_519
  let c0_i32_493 : BitVec 32 := 0#32
  let v1009 : BitVec 32 := Scalar.subi v44 c0_i32_493
  let c1_i32_494 : BitVec 32 := 1#32
  let v1011 : BitVec 32 := Scalar.divsi v1009 c1_i32_494
  let v1012 : BitVec 32 := Scalar.muli v1011 c1_i32_494
  let v1013 : BitVec 32 := Scalar.addi c0_i32_493 v1012
  let c1_i32_496 : BitVec 32 := 1#32
  let arg14 : BitVec 32 := Scf.iv v1013 c1_i32_496 k0_t2
  let v1051 : BitVec 32 := Scalar.subi v1050 arg14
  let c1_i32_527 : BitVec 32 := 1#32
  let v1061 : BitVec 32 := Scalar.addi v1051 c1_i32_527
  let c256_i32_528 : BitVec 32 := 256#32
  let v1062 : BitVec 32 := Scalar.muli v1061 c256_i32_528
  v1062
def k0_off8 (i : grid0.Coords) (k0_t2 : Fin (k0_t2_loop i).trips) : Fin 3 → Nat :=
  let c0_529 : Index := 0#32
  let arg2 : BitVec 32 := BitVec.ofNat 32 (i 2).val
  let c256_i32 : BitVec 32 := 256#32
  let v27 : BitVec 32 := Scalar.muli arg2 c256_i32
  let c0_i32 : BitVec 32 := 0#32
  let v29 : BitVec 1 := Scalar.cmpi .sgt v27 c0_i32
  let v30 : BitVec 32 := Scalar.extui v29
  let c0_i32_12 : BitVec 32 := 0#32
  let v31 : BitVec 1 := Scalar.cmpi .slt v27 c0_i32_12
  let v32 : BitVec 32 := Scalar.extui v31
  let v33 : BitVec 32 := Scalar.subi v30 v32
  let c256_i32_11 : BitVec 32 := 256#32
  let c0_i32_13 : BitVec 32 := 0#32
  let v34 : BitVec 1 := Scalar.cmpi .sgt c256_i32_11 c0_i32_13
  let v35 : BitVec 32 := Scalar.extui v34
  let c0_i32_14 : BitVec 32 := 0#32
  let v36 : BitVec 1 := Scalar.cmpi .slt c256_i32_11 c0_i32_14
  let v37 : BitVec 32 := Scalar.extui v36
  let v38 : BitVec 32 := Scalar.subi v35 v37
  let v39 : BitVec 1 := Scalar.cmpi .ne v33 v38
  let v40 : BitVec 32 := Scalar.remsi v27 c256_i32_11
  let c0_i32_15 : BitVec 32 := 0#32
  let v41 : BitVec 1 := Scalar.cmpi .ne v40 c0_i32_15
  let v42 : BitVec 1 := Scalar.andi v39 v41
  let v28 : BitVec 32 := Scalar.divsi v27 c256_i32_11
  let c1_i32_16 : BitVec 32 := 1#32
  let v43 : BitVec 32 := Scalar.subi v28 c1_i32_16
  let v44 : BitVec 32 := Scalar.select v42 v43 v28
  let c1_i32_519 : BitVec 32 := 1#32
  let v1050 : BitVec 32 := Scalar.subi v44 c1_i32_519
  let c0_i32_493 : BitVec 32 := 0#32
  let v1009 : BitVec 32 := Scalar.subi v44 c0_i32_493
  let c1_i32_494 : BitVec 32 := 1#32
  let v1011 : BitVec 32 := Scalar.divsi v1009 c1_i32_494
  let v1012 : BitVec 32 := Scalar.muli v1011 c1_i32_494
  let v1013 : BitVec 32 := Scalar.addi c0_i32_493 v1012
  let c1_i32_496 : BitVec 32 := 1#32
  let arg14 : BitVec 32 := Scf.iv v1013 c1_i32_496 k0_t2
  let v1051 : BitVec 32 := Scalar.subi v1050 arg14
  let c1_i32_527 : BitVec 32 := 1#32
  let v1061 : BitVec 32 := Scalar.addi v1051 c1_i32_527
  let c256_i32_528 : BitVec 32 := 256#32
  let v1062 : BitVec 32 := Scalar.muli v1061 c256_i32_528
  let v1063 : BitVec 32 := v1062
  let v1064 : Index := Scalar.indexCast v1063
  let c0_530 : Index := 0#32
  ![0, v1064.toNat, 0]
def k0_mult7 : BitVec 32 :=
  let c0_i32_497 : BitVec 32 := 0#32
  c0_i32_497
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x8192x16x64 : Shape := ⟨4, ![2, 8192, 16, 64]⟩
abbrev S2x8192x14336 : Shape := ⟨3, ![2, 8192, 14336]⟩
abbrev S16 : Shape := ⟨1, ![16]⟩
abbrev S8192 : Shape := ⟨1, ![8192]⟩
abbrev S2x16x8192x8192 : Shape := ⟨4, ![2, 16, 8192, 8192]⟩
abbrev S_ : Shape := ⟨0, ![]⟩
abbrev S1x16x1x1 : Shape := ⟨4, ![1, 16, 1, 1]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x16x64x8192 : Shape := ⟨4, ![2, 16, 64, 8192]⟩
abbrev S2x8192x1024 : Shape := ⟨3, ![2, 8192, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S2x8192x14336, .f32⟩
  | .hbm, ⟨4, _⟩ => ⟨S16, .f32⟩
  | .hbm, ⟨5, _⟩ => ⟨S8192, .i32⟩
  | .hbm, ⟨6, _⟩ => ⟨S2x16x8192x8192, .f32⟩
  | .hbm, ⟨7, _⟩ => ⟨S_, .f32⟩
  | .hbm, ⟨8, _⟩ => ⟨S2x16x8192x8192, .f32⟩
  | .hbm, ⟨9, _⟩ => ⟨S2x16x8192x8192, .f32⟩
  | .hbm, ⟨10, _⟩ => ⟨S1x16x1x1, .f32⟩
  | .hbm, ⟨11, _⟩ => ⟨S2x16x8192x8192, .f32⟩
  | .hbm, ⟨12, _⟩ => ⟨S2x16x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x1x8192x8192, .i1⟩
  | .hbm, ⟨19, _⟩ => ⟨S2x16x8192x8192, .f32⟩
  | .hbm, ⟨20, _⟩ => ⟨S2x16x8192x8192, .f32⟩
  | .hbm, ⟨21, _⟩ => ⟨S_, .f32⟩
  | .hbm, ⟨22, _⟩ => ⟨S2x16x8192x8192, .f32⟩
  | .hbm, ⟨23, _⟩ => ⟨S2x16x8192x8192, .f32⟩
  | .hbm, ⟨24, _⟩ => ⟨S2x16x8192x8192, .f32⟩
  | .hbm, ⟨25, _⟩ => ⟨S2x16x8192x8192, .f32⟩
  | .hbm, ⟨26, _⟩ => ⟨S2x16x8192x8192, .i1⟩
  | .hbm, ⟨27, _⟩ => ⟨S2x16x8192x8192, .f32⟩
  | .hbm, ⟨28, _⟩ => ⟨S2x16x8192x8192, .f32⟩
  | .hbm, ⟨29, _⟩ => ⟨S2x16x8192x8192, .f32⟩
  | .hbm, ⟨30, _⟩ => ⟨S2x16x8192x8192, .f32⟩
  | .hbm, ⟨31, _⟩ => ⟨S2x16x8192x8192, .f32⟩
  | .hbm, ⟨32, _⟩ => ⟨S2x16x8192x8192, .f32⟩
  | .hbm, ⟨33, _⟩ => ⟨S2x16x8192x8192, .f32⟩
  | .hbm, ⟨34, _⟩ => ⟨S2x16x8192x8192, .f32⟩
  | .hbm, ⟨35, _⟩ => ⟨S2x16x8192x8192, .f32⟩
  | .hbm, ⟨36, _⟩ => ⟨S_, .f32⟩
  | .hbm, ⟨37, _⟩ => ⟨S_, .f32⟩
  | .hbm, ⟨38, _⟩ => ⟨S2x16x8192x8192, .i1⟩
  | .hbm, ⟨39, _⟩ => ⟨S2x16x8192x8192, .f32⟩
  | .hbm, ⟨40, _⟩ => ⟨S2x16x8192x8192, .f32⟩
  | .hbm, ⟨41, _⟩ => ⟨S_, .f32⟩
  | .hbm, ⟨42, _⟩ => ⟨S_, .f32⟩
  | .hbm, ⟨43, _⟩ => ⟨S2x16x8192x8192, .f32⟩
  | .hbm, ⟨44, _⟩ => ⟨S2x16x8192x8192, .f32⟩
  | .hbm, ⟨45, _⟩ => ⟨S2x16x8192x8192, .f32⟩
  | .hbm, ⟨46, _⟩ => ⟨S_, .f32⟩
  | .hbm, ⟨47, _⟩ => ⟨S2x16x8192x8192, .f32⟩
  | .hbm, ⟨48, _⟩ => ⟨S2x16x8192x8192, .f32⟩
  | .hbm, ⟨49, _⟩ => ⟨S2x16x8192x8192, .f32⟩
  | .hbm, ⟨50, _⟩ => ⟨S2x16x8192x8192, .f32⟩
  | .hbm, ⟨51, _⟩ => ⟨S2x16x8192x8192, .i1⟩
  | .hbm, ⟨52, _⟩ => ⟨S2x16x8192x8192, .f32⟩
  | .hbm, ⟨53, _⟩ => ⟨S2x16x8192x8192, .f32⟩
  | .hbm, ⟨54, _⟩ => ⟨S2x16x8192x8192, .f32⟩
  | .hbm, ⟨55, _⟩ => ⟨S2x16x8192x8192, .f32⟩
  | .hbm, ⟨56, _⟩ => ⟨S2x16x8192x8192, .f32⟩
  | .hbm, ⟨57, _⟩ => ⟨S2x16x8192x8192, .f32⟩
  | .hbm, ⟨58, _⟩ => ⟨S2x16x8192x8192, .f32⟩
  | .hbm, ⟨59, _⟩ => ⟨S2x16x8192x8192, .f32⟩
  | .hbm, ⟨60, _⟩ => ⟨S2x16x8192x8192, .f32⟩
  | .hbm, ⟨61, _⟩ => ⟨S2x16x8192x8192, .f32⟩
  | .hbm, ⟨62, _⟩ => ⟨S2x16x8192x8192, .f32⟩
  | .hbm, ⟨63, _⟩ => ⟨S_, .f32⟩
  | .hbm, ⟨64, _⟩ => ⟨S_, .f32⟩
  | .hbm, ⟨65, _⟩ => ⟨S2x16x8192x8192, .i1⟩
  | .hbm, ⟨66, _⟩ => ⟨S2x16x8192x8192, .f32⟩
  | .hbm, ⟨67, _⟩ => ⟨S2x16x8192x8192, .f32⟩
  | .hbm, ⟨68, _⟩ => ⟨S2x16x64x8192, .f32⟩
  | .hbm, ⟨69, _⟩ => ⟨S2x8192x16x64, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S_, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .bf16⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v15 : Ref sig .tc := ⟨.hbm, 40, rfl⟩
abbrev main_call2_cst : Ref sig .tc := ⟨.hbm, 41, rfl⟩
abbrev main_call2_v0 : Ref sig .tc := ⟨.hbm, 42, rfl⟩
abbrev main_v16 : Ref sig .tc := ⟨.hbm, 43, rfl⟩
abbrev main_v17 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_call5_v0 : Ref sig .tc := ⟨.hbm, 72, rfl⟩
abbrev main_call5_v1 : Ref sig .tc := ⟨.hbm, 73, rfl⟩
abbrev main_call5_cst : Ref sig .tc := ⟨.hbm, 74, rfl⟩
abbrev main_call5_v2 : Ref sig .tc := ⟨.hbm, 75, rfl⟩
abbrev main_call5_v3 : Ref sig .tc := ⟨.hbm, 76, rfl⟩
abbrev main_call5_cst_0 : Ref sig .tc := ⟨.hbm, 77, rfl⟩
abbrev main_call5_v4 : Ref sig .tc := ⟨.hbm, 78, rfl⟩
abbrev main_call5_v5 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩

abbrev nD : Nat := 1
abbrev τ : Topo := Topo.v7x

variable {F : FTy → Type} [FloatOps F]
-- ==== Proj.lean ====
abbrev S2x8192x1024 : Shape := ⟨3, ![2, 8192, 1024]⟩
abbrev S1024 : Shape := ⟨1, ![1024]⟩
abbrev S1024x14464 : Shape := ⟨2, ![1024, 14464]⟩
abbrev S1024x10240 : Shape := ⟨2, ![1024, 10240]⟩
abbrev S1024x4096 : Shape := ⟨2, ![1024, 4096]⟩
abbrev S1024x14336 : Shape := ⟨2, ![1024, 14336]⟩
abbrev S16384x1024 : Shape := ⟨2, ![16384, 1024]⟩
abbrev S1x1024 : Shape := ⟨2, ![1, 1024]⟩
abbrev S16384x14336 : Shape := ⟨2, ![16384, 14336]⟩
abbrev S1024x1024 : Shape := ⟨2, ![1024, 1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x14464, .f32⟩
  | .hbm, ⟨3, _⟩ => ⟨S1024x10240, .f32⟩
  | .hbm, ⟨4, _⟩ => ⟨S1024x4096, .f32⟩
  | .hbm, ⟨5, _⟩ => ⟨S1024x14336, .f32⟩
  | .hbm, ⟨6, _⟩ => ⟨S1024x14336, .bf16⟩
  | .hbm, ⟨7, _⟩ => ⟨S16384x1024, .f32⟩
  | .hbm, ⟨8, _⟩ => ⟨S1x1024, .f32⟩
  | .hbm, ⟨9, _⟩ => ⟨S16384x14336, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S2x8192x1024 : Shape := ⟨3, ![2, 8192, 1024]⟩
abbrev S1024 : Shape := ⟨1, ![1024]⟩
abbrev S1024x14464 : Shape := ⟨2, ![1024, 14464]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x14464 : Shape := ⟨3, ![2, 8192, 14464]⟩
abbrev S2x8192x10240 : Shape := ⟨3, ![2, 8192, 10240]⟩
abbrev S2x8192x4096 : Shape := ⟨3, ![2, 8192, 4096]⟩
abbrev S2x8192x14336 : Shape := ⟨3, ![2, 8192, 14336]⟩
abbrev S16384x14336 : Shape := ⟨2, ![16384, 14336]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x14464, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x14464, .f32⟩
  | .hbm, ⟨20, _⟩ => ⟨S2x8192x10240, .f32⟩
  | .hbm, ⟨21, _⟩ => ⟨S2x8192x4096, .f32⟩
  | .hbm, ⟨22, _⟩ => ⟨S2x8192x14336, .f32⟩
  | .hbm, ⟨23, _⟩ => ⟨S16384x14336, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x14336 : Shape := ⟨3, ![2, 8192, 14336]⟩
abbrev S1024x1024 : Shape := ⟨2, ![1024, 1024]⟩
abbrev S16384x1024 : Shape := ⟨2, ![16384, 1024]⟩
abbrev S16384x14336 : Shape := ⟨2, ![16384, 14336]⟩
abbrev S512x1024 : Shape := ⟨2, ![512, 1024]⟩

abbrev nBuf : Space → Nat
  | .hbm => 22
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x14336, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S16384x1024, .f32⟩
  | .hbm, ⟨10, _⟩ => ⟨S2x8192x1024, .bf16⟩
  | .hbm, ⟨11, _⟩ => ⟨S16384x1024, .bf16⟩
  | .hbm, ⟨12, _⟩ => ⟨S2x8192x1024, .bf16⟩
  | .hbm, ⟨13, _⟩ => ⟨S16384x1024, .bf16⟩
  | .hbm, ⟨14, _⟩ => ⟨S2x8192x1024, .bf16⟩
  | .hbm, ⟨15, _⟩ => ⟨S16384x1024, .bf16⟩
  | .hbm, ⟨16, _⟩ => ⟨S16384x14336, .f32⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S2x8192x1024 : Shape := ⟨3, ![2, 8192, 1024]⟩
abbrev S2x8192x14336 : Shape := ⟨3, ![2, 8192, 14336]⟩
abbrev S1024x1024 : Shape := ⟨2, ![1024, 1024]⟩
abbrev S2x8192x3072 : Shape := ⟨3, ![2, 8192, 3072]⟩
abbrev S_ : Shape := ⟨0, ![]⟩
abbrev S2x8192x3x1024 : Shape := ⟨4, ![2, 8192, 3, 1024]⟩
abbrev S2x8192x1x1024 : Shape := ⟨4, ![2, 8192, 1, 1024]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x14336, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x3072, .f32⟩
  | .hbm, ⟨13, _⟩ => ⟨S2x8192x3072, .f32⟩
  | .hbm, ⟨14, _⟩ => ⟨S2x8192x3072, .f32⟩
  | .hbm, ⟨15, _⟩ => ⟨S_, .f32⟩
  | .hbm, ⟨16, _⟩ => ⟨S2x8192x3072, .f32⟩
  | .hbm, ⟨17, _⟩ => ⟨S2x8192x3072, .f32⟩
  | .hbm, ⟨18, _⟩ => ⟨S_, .f32⟩
  | .hbm, ⟨19, _⟩ => ⟨S2x8192x3072, .f32⟩
  | .hbm, ⟨20, _⟩ => ⟨S2x8192x3072, .f32⟩
  | .hbm, ⟨21, _⟩ => ⟨S2x8192x3x1024, .f32⟩
  | .hbm, ⟨22, _⟩ => ⟨S2x8192x1x1024, .f32⟩
  | .hbm, ⟨23, _⟩ => ⟨S2x8192x1024, .f32⟩
  | .hbm, ⟨24, _⟩ => ⟨S2x8192x1024, .f32⟩
  | .hbm, ⟨25, _⟩ => ⟨S2x8192x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Lora.lean ====
abbrev S2x8192x1024 : Shape := ⟨3, ![2, 8192, 1024]⟩
abbrev S1024 : Shape := ⟨1, ![1024]⟩
abbrev S1024x14464 : Shape := ⟨2, ![1024, 14464]⟩
abbrev S1024x128 : Shape := ⟨2, ![1024, 128]⟩
abbrev S16384x1024 : Shape := ⟨2, ![16384, 1024]⟩
abbrev S1x1024 : Shape := ⟨2, ![1, 1024]⟩
abbrev S16384x128 : Shape := ⟨2, ![16384, 128]⟩
abbrev S1024x1024 : Shape := ⟨2, ![1024, 1024]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x14464, .f32⟩
  | .hbm, ⟨3, _⟩ => ⟨S1024x128, .f32⟩
  | .hbm, ⟨4, _⟩ => ⟨S1024x128, .bf16⟩
  | .hbm, ⟨5, _⟩ => ⟨S16384x1024, .f32⟩
  | .hbm, ⟨6, _⟩ => ⟨S1x1024, .f32⟩
  | .hbm, ⟨7, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LoraRefIdeal.lean ====
abbrev S2x8192x1024 : Shape := ⟨3, ![2, 8192, 1024]⟩
abbrev S1024 : Shape := ⟨1, ![1024]⟩
abbrev S1024x14464 : Shape := ⟨2, ![1024, 14464]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x14464 : Shape := ⟨3, ![2, 8192, 14464]⟩
abbrev S2x8192x128 : Shape := ⟨3, ![2, 8192, 128]⟩
abbrev S16384x128 : Shape := ⟨2, ![16384, 128]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x14464, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x14464, .f32⟩
  | .hbm, ⟨20, _⟩ => ⟨S2x8192x128, .f32⟩
  | .hbm, ⟨21, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Heads.lean ====
abbrev S16384x14336 : Shape := ⟨2, ![16384, 14336]⟩
abbrev S64 : Shape := ⟨1, ![64]⟩
abbrev S16x16 : Shape := ⟨2, ![16, 16]⟩
abbrev S_ : Shape := ⟨0, ![]⟩
abbrev S64x64 : Shape := ⟨2, ![64, 64]⟩
abbrev S16x1x16x1 : Shape := ⟨4, ![16, 1, 16, 1]⟩
abbrev S1x64x1x64 : Shape := ⟨4, ![1, 64, 1, 64]⟩
abbrev S16x64x16x64 : Shape := ⟨4, ![16, 64, 16, 64]⟩
abbrev S1024x1024 : Shape := ⟨2, ![1024, 1024]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩

abbrev nBuf : Space → Nat
  | .hbm => 32
  | .vmem => 23
  | .smem => 0
  | _ => 0

abbrev bufTy : (tb : Table) → Fin (tcTables nBuf tb) → BufTy
  | .hbm, ⟨0, _⟩ => ⟨S16384x14336, .f32⟩
  | .hbm, ⟨1, _⟩ => ⟨S64, .f32⟩
  | .hbm, ⟨2, _⟩ => ⟨S64, .f32⟩
  | .hbm, ⟨3, _⟩ => ⟨S16x16, .i32⟩
  | .hbm, ⟨4, _⟩ => ⟨S16x16, .i32⟩
  | .hbm, ⟨5, _⟩ => ⟨S_, .i32⟩
  | .hbm, ⟨6, _⟩ => ⟨S16x16, .i32⟩
  | .hbm, ⟨7, _⟩ => ⟨S16x16, .i32⟩
  | .hbm, ⟨8, _⟩ => ⟨S16x16, .i1⟩
  | .hbm, ⟨9, _⟩ => ⟨S16x16, .f32⟩
  | .hbm, ⟨10, _⟩ => ⟨S_, .f32⟩
  | .hbm, ⟨11, _⟩ => ⟨S64x64, .f32⟩
  | .hbm, ⟨12, _⟩ => ⟨S16x1x16x1, .f32⟩
  | .hbm, ⟨13, _⟩ => ⟨S1x64x1x64, .f32⟩
  | .hbm, ⟨14, _⟩ => ⟨S16x64x16x64, .f32⟩
  | .hbm, ⟨15, _⟩ => ⟨S16x64x16x64, .f32⟩
  | .hbm, ⟨16, _⟩ => ⟨S16x64x16x64, .f32⟩
  | .hbm, ⟨17, _⟩ => ⟨S1024x1024, .f32⟩
  | .hbm, ⟨18, _⟩ => ⟨S1024x1024, .bf16⟩
  | .hbm, ⟨19, _⟩ => ⟨S1x64, .f32⟩
  | .hbm, ⟨20, _⟩ => ⟨S16x64, .f32⟩
  | .hbm, ⟨21, _⟩ => ⟨S1024, .f32⟩
  | .hbm, ⟨22, _⟩ => ⟨S1x1024, .f32⟩
  | .hbm, ⟨23, _⟩ => ⟨S1x64, .f32⟩
  | .hbm, ⟨24, _⟩ => ⟨S16x64, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .bf16⟩
  | .hbm, ⟨29, _⟩ => ⟨S16384x1024, .f32⟩
  | .hbm, ⟨30, _⟩ => ⟨S16384x1024, .bf16⟩
  | .hbm, ⟨31, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S16384x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== HeadsIdeal.lean ====
variable {F : FTy → Type} [FloatOps F] [Named F]
def κ : String → Option EReal := fun
  | "qscale" => some (((1 / 8) * (Real.log 2)⁻¹ : ℝ) : EReal)
  | _ => none
-- ==== HeadsRefIdeal.lean ====
abbrev S16384x14336 : Shape := ⟨2, ![16384, 14336]⟩
abbrev S64 : Shape := ⟨1, ![64]⟩
abbrev S16384x1024 : Shape := ⟨2, ![16384, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x1x64 : Shape := ⟨3, ![1, 1, 64]⟩

abbrev nBuf : Space → Nat
  | .hbm => 64
  | .vmem => 0
  | .smem => 0
  | _ => 0

abbrev bufTy : (tb : Table) → Fin (tcTables nBuf tb) → BufTy
  | .hbm, ⟨0, _⟩ => ⟨S16384x14336, .f32⟩
  | .hbm, ⟨1, _⟩ => ⟨S64, .f32⟩
  | .hbm, ⟨2, _⟩ => ⟨S64, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x16x64, .f32⟩
  | .hbm, ⟨9, _⟩ => ⟨S16384x16x64, .f32⟩
  | .hbm, ⟨10, _⟩ => ⟨S16384x16x64, .f32⟩
  | .hbm, ⟨11, _⟩ => ⟨S_, .f32⟩
  | .hbm, ⟨12, _⟩ => ⟨S16384x16, .f32⟩
  | .hbm, ⟨13, _⟩ => ⟨S16384x16x1, .f32⟩
  | .hbm, ⟨14, _⟩ => ⟨S_, .f32⟩
  | .hbm, ⟨15, _⟩ => ⟨S16384x16x1, .f32⟩
  | .hbm, ⟨16, _⟩ => ⟨S16384x16x1, .f32⟩
  | .hbm, ⟨17, _⟩ => ⟨S_, .f32⟩
  | .hbm, ⟨18, _⟩ => ⟨S16384x16x1, .f32⟩
  | .hbm, ⟨19, _⟩ => ⟨S16384x16x1, .f32⟩
  | .hbm, ⟨20, _⟩ => ⟨S16384x16x1, .f32⟩
  | .hbm, ⟨21, _⟩ => ⟨S16384x16x64, .f32⟩
  | .hbm, ⟨22, _⟩ => ⟨S16384x16x64, .f32⟩
  | .hbm, ⟨23, _⟩ => ⟨S1x1x64, .f32⟩
  | .hbm, ⟨24, _⟩ => ⟨S16384x16x64, .f32⟩
  | .hbm, ⟨25, _⟩ => ⟨S16384x16x64, .f32⟩
  | .hbm, ⟨26, _⟩ => ⟨S16384x16x64, .f32⟩
  | .hbm, ⟨27, _⟩ => ⟨S_, .f32⟩
  | .hbm, ⟨28, _⟩ => ⟨S16384x16, .f32⟩
  | .hbm, ⟨29, _⟩ => ⟨S16384x16x1, .f32⟩
  | .hbm, ⟨30, _⟩ => ⟨S_, .f32⟩
  | .hbm, ⟨31, _⟩ => ⟨S16384x16x1, .f32⟩
  | .hbm, ⟨32, _⟩ => ⟨S16384x16x1, .f32⟩
  | .hbm, ⟨33, _⟩ => ⟨S_, .f32⟩
  | .hbm, ⟨34, _⟩ => ⟨S16384x16x1, .f32⟩
  | .hbm, ⟨35, _⟩ => ⟨S16384x16x1, .f32⟩
  | .hbm, ⟨36, _⟩ => ⟨S16384x16x1, .f32⟩
  | .hbm, ⟨37, _⟩ => ⟨S16384x16x64, .f32⟩
  | .hbm, ⟨38, _⟩ => ⟨S16384x16x64, .f32⟩
  | .hbm, ⟨39, _⟩ => ⟨S1x1x64, .f32⟩
  | .hbm, ⟨40, _⟩ => ⟨S16384x16x64, .f32⟩
  | .hbm, ⟨41, _⟩ => ⟨S16384x16x64, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .bf16⟩
  | .hbm, ⟨62, _⟩ => ⟨S16384x1024, .bf16⟩
  | .hbm, ⟨63, _⟩ => ⟨S16384x1024, .bf16⟩
  | _, _ => ⟨S16384x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Conv.lean ====
abbrev S2x8192x1024 : Shape := ⟨3, ![2, 8192, 1024]⟩
abbrev S2x30x1024 : Shape := ⟨3, ![2, 30, 1024]⟩
abbrev S2x8192x14336 : Shape := ⟨3, ![2, 8192, 14336]⟩
abbrev S31x1024 : Shape := ⟨2, ![31, 1024]⟩
abbrev S1024 : Shape := ⟨1, ![1024]⟩
abbrev S_ : Shape := ⟨0, ![]⟩
abbrev S2x2x1024 : Shape := ⟨3, ![2, 2, 1024]⟩
abbrev S2x32x1024 : Shape := ⟨3, ![2, 32, 1024]⟩
abbrev S2x8224x1024 : Shape := ⟨3, ![2, 8224, 1024]⟩
abbrev S1x1024 : Shape := ⟨2, ![1, 1024]⟩
abbrev S32x1024 : Shape := ⟨2, ![32, 1024]⟩
abbrev S1x128x1024 : Shape := ⟨3, ![1, 128, 1024]⟩
abbrev S1x32x1024 : Shape := ⟨3, ![1, 32, 1024]⟩
abbrev S160x1024 : Shape := ⟨2, ![160, 1024]⟩
abbrev S128x1024 : Shape := ⟨2, ![128, 1024]⟩
abbrev S128 : Shape := ⟨1, ![128]⟩
abbrev S128x1 : Shape := ⟨2, ![128, 1]⟩

abbrev nBuf : Space → Nat
  | .hbm => 18
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x30x1024, .f32⟩
  | .hbm, ⟨2, _⟩ => ⟨S2x8192x14336, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S2x2x1024, .f32⟩
  | .hbm, ⟨9, _⟩ => ⟨S2x32x1024, .f32⟩
  | .hbm, ⟨10, _⟩ => ⟨S2x8224x1024, .f32⟩
  | .hbm, ⟨11, _⟩ => ⟨S_, .f32⟩
  | .hbm, ⟨12, _⟩ => ⟨S1x1024, .f32⟩
  | .hbm, ⟨13, _⟩ => ⟨S32x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2x8192x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x128x1024, .f32⟩
  | .local _ .vmem, ⟨5, _⟩ => ⟨S1x128x1024, .f32⟩
  | .local _ .vmem, ⟨6, _⟩ => ⟨S32x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x128x1024, .bf16⟩
  | .local _ .vmem, ⟨11, _⟩ => ⟨S1x128x1024, .bf16⟩
  | .local _ .vmem, ⟨12, _⟩ => ⟨S160x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvRefIdeal.lean ====
abbrev S2x8192x1024 : Shape := ⟨3, ![2, 8192, 1024]⟩
abbrev S2x30x1024 : Shape := ⟨3, ![2, 30, 1024]⟩
abbrev S2x8192x14336 : Shape := ⟨3, ![2, 8192, 14336]⟩
abbrev S31x1024 : Shape := ⟨2, ![31, 1024]⟩
abbrev S1024 : Shape := ⟨1, ![1024]⟩
abbrev S2x8222x1024 : Shape := ⟨3, ![2, 8222, 1024]⟩
abbrev S1x1024 : Shape := ⟨2, ![1, 1024]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 280
  | .vmem => 0
  | .smem => 0
  | _ => 0

abbrev hbmTy0_0 (i : Nat) : BufTy := match i % 128 with
  | 0 => ⟨S2x8192x1024, .f32⟩
  | 1 => ⟨S2x30x1024, .f32⟩
  | 2 => ⟨S2x8192x14336, .f32⟩
  | 3 => ⟨S31x1024, .f32⟩
  | 4 => ⟨S1024, .f32⟩
  | 5 => ⟨S1024, .f32⟩
  | 6 => ⟨S1024, .f32⟩
  | 7 => ⟨S2x8222x1024, .f32⟩
  | 8 => ⟨S2x8192x1024, .f32⟩
  | 9 => ⟨S1x1024, .f32⟩
  | 10 => ⟨S1024, .f32⟩
  | 11 => ⟨S1x1x1024, .f32⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S2x8192x1024, .f32⟩
  | 18 => ⟨S1x1024, .f32⟩
  | 19 => ⟨S1024, .f32⟩
  | 20 => ⟨S1x1x1024, .f32⟩
  | 21 => ⟨S2x8192x1024, .f32⟩
  | 22 => ⟨S2x8192x1024, .f32⟩
  | 23 => ⟨S2x8192x1024, .f32⟩
  | 24 => ⟨S2x8192x1024, .f32⟩
  | 25 => ⟨S1x1024, .f32⟩
  | 26 => ⟨S1024, .f32⟩
  | 27 => ⟨S1x1x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S1x1024, .f32⟩
  | 33 => ⟨S1024, .f32⟩
  | 34 => ⟨S1x1x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S1x1024, .f32⟩
  | 40 => ⟨S1024, .f32⟩
  | 41 => ⟨S1x1x1024, .f32⟩
  | 42 => ⟨S2x8192x1024, .f32⟩
  | 43 => ⟨S2x8192x1024, .f32⟩
  | 44 => ⟨S2x8192x1024, .f32⟩
  | 45 => ⟨S2x8192x1024, .f32⟩
  | 46 => ⟨S1x1024, .f32⟩
  | 47 => ⟨S1024, .f32⟩
  | 48 => ⟨S1x1x1024, .f32⟩
  | 49 => ⟨S2x8192x1024, .f32⟩
  | 50 => ⟨S2x8192x1024, .f32⟩
  | 51 => ⟨S2x8192x1024, .f32⟩
  | 52 => ⟨S2x8192x1024, .f32⟩
  | 53 => ⟨S1x1024, .f32⟩
  | 54 => ⟨S1024, .f32⟩
  | 55 => ⟨S1x1x1024, .f32⟩
  | 56 => ⟨S2x8192x1024, .f32⟩
  | 57 => ⟨S2x8192x1024, .f32⟩
  | 58 => ⟨S2x8192x1024, .f32⟩
  | 59 => ⟨S2x8192x1024, .f32⟩
  | 60 => ⟨S1x1024, .f32⟩
  | 61 => ⟨S1024, .f32⟩
  | 62 => ⟨S1x1x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S1x1024, .f32⟩
  | 68 => ⟨S1024, .f32⟩
  | 69 => ⟨S1x1x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S1x1024, .f32⟩
  | 75 => ⟨S1024, .f32⟩
  | 76 => ⟨S1x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S1x1024, .f32⟩
  | 82 => ⟨S1024, .f32⟩
  | 83 => ⟨S1x1x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S1x1024, .f32⟩
  | 89 => ⟨S1024, .f32⟩
  | 90 => ⟨S1x1x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S1x1024, .f32⟩
  | 96 => ⟨S1024, .f32⟩
  | 97 => ⟨S1x1x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S1x1024, .f32⟩
  | 103 => ⟨S1024, .f32⟩
  | 104 => ⟨S1x1x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S1x1024, .f32⟩
  | 110 => ⟨S1024, .f32⟩
  | 111 => ⟨S1x1x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S1x1024, .f32⟩
  | 117 => ⟨S1024, .f32⟩
  | 118 => ⟨S1x1x1024, .f32⟩
  | 119 => ⟨S2x8192x1024, .f32⟩
  | 120 => ⟨S2x8192x1024, .f32⟩
  | 121 => ⟨S2x8192x1024, .f32⟩
  | 122 => ⟨S2x8192x1024, .f32⟩
  | 123 => ⟨S1x1024, .f32⟩
  | 124 => ⟨S1024, .f32⟩
  | 125 => ⟨S1x1x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S1x1024, .f32⟩
  | 3 => ⟨S1024, .f32⟩
  | 4 => ⟨S1x1x1024, .f32⟩
  | 5 => ⟨S2x8192x1024, .f32⟩
  | 6 => ⟨S2x8192x1024, .f32⟩
  | 7 => ⟨S2x8192x1024, .f32⟩
  | 8 => ⟨S2x8192x1024, .f32⟩
  | 9 => ⟨S1x1024, .f32⟩
  | 10 => ⟨S1024, .f32⟩
  | 11 => ⟨S1x1x1024, .f32⟩
  | 12 => ⟨S2x8192x1024, .f32⟩
  | 13 => ⟨S2x8192x1024, .f32⟩
  | 14 => ⟨S2x8192x1024, .f32⟩
  | 15 => ⟨S2x8192x1024, .f32⟩
  | 16 => ⟨S1x1024, .f32⟩
  | 17 => ⟨S1024, .f32⟩
  | 18 => ⟨S1x1x1024, .f32⟩
  | 19 => ⟨S2x8192x1024, .f32⟩
  | 20 => ⟨S2x8192x1024, .f32⟩
  | 21 => ⟨S2x8192x1024, .f32⟩
  | 22 => ⟨S2x8192x1024, .f32⟩
  | 23 => ⟨S1x1024, .f32⟩
  | 24 => ⟨S1024, .f32⟩
  | 25 => ⟨S1x1x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S1x1024, .f32⟩
  | 31 => ⟨S1024, .f32⟩
  | 32 => ⟨S1x1x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S1x1024, .f32⟩
  | 38 => ⟨S1024, .f32⟩
  | 39 => ⟨S1x1x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S1x1024, .f32⟩
  | 45 => ⟨S1024, .f32⟩
  | 46 => ⟨S1x1x1024, .f32⟩
  | 47 => ⟨S2x8192x1024, .f32⟩
  | 48 => ⟨S2x8192x1024, .f32⟩
  | 49 => ⟨S2x8192x1024, .f32⟩
  | 50 => ⟨S2x8192x1024, .f32⟩
  | 51 => ⟨S1x1024, .f32⟩
  | 52 => ⟨S1024, .f32⟩
  | 53 => ⟨S1x1x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S1x1024, .f32⟩
  | 59 => ⟨S1024, .f32⟩
  | 60 => ⟨S1x1x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S1x1024, .f32⟩
  | 66 => ⟨S1024, .f32⟩
  | 67 => ⟨S1x1x1024, .f32⟩
  | 68 => ⟨S2x8192x1024, .f32⟩
  | 69 => ⟨S2x8192x1024, .f32⟩
  | 70 => ⟨S2x8192x1024, .f32⟩
  | 71 => ⟨S2x8192x1024, .f32⟩
  | 72 => ⟨S1x1024, .f32⟩
  | 73 => ⟨S1024, .f32⟩
  | 74 => ⟨S1x1x1024, .f32⟩
  | 75 => ⟨S2x8192x1024, .f32⟩
  | 76 => ⟨S2x8192x1024, .f32⟩
  | 77 => ⟨S2x8192x1024, .f32⟩
  | 78 => ⟨S2x8192x1024, .f32⟩
  | 79 => ⟨S1x1024, .f32⟩
  | 80 => ⟨S1024, .f32⟩
  | 81 => ⟨S1x1x1024, .f32⟩
  | 82 => ⟨S2x8192x1024, .f32⟩
  | 83 => ⟨S2x8192x1024, .f32⟩
  | 84 => ⟨S2x8192x1024, .f32⟩
  | 85 => ⟨S2x8192x1024, .f32⟩
  | 86 => ⟨S1x1024, .f32⟩
  | 87 => ⟨S1024, .f32⟩
  | 88 => ⟨S1x1x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S1x1024, .f32⟩
  | 94 => ⟨S1024, .f32⟩
  | 95 => ⟨S1x1x1024, .f32⟩
  | 96 => ⟨S2x8192x1024, .f32⟩
  | 97 => ⟨S2x8192x1024, .f32⟩
  | 98 => ⟨S2x8192x1024, .f32⟩
  | 99 => ⟨S1x1x1024, .f32⟩
  | 100 => ⟨S2x8192x1024, .f32⟩
  | 101 => ⟨S2x8192x1024, .f32⟩
  | 102 => ⟨S_, .f32⟩
  | 103 => ⟨S2x8192, .f32⟩
  | 104 => ⟨S2x8192x1, .f32⟩
  | 105 => ⟨S_, .f32⟩
  | 106 => ⟨S2x8192x1, .f32⟩
  | 107 => ⟨S2x8192x1, .f32⟩
  | 108 => ⟨S2x8192x1024, .f32⟩
  | 109 => ⟨S2x8192x1024, .f32⟩
  | 110 => ⟨S2x8192x1024, .f32⟩
  | 111 => ⟨S_, .f32⟩
  | 112 => ⟨S2x8192, .f32⟩
  | 113 => ⟨S2x8192x1, .f32⟩
  | 114 => ⟨S_, .f32⟩
  | 115 => ⟨S2x8192x1, .f32⟩
  | 116 => ⟨S2x8192x1, .f32⟩
  | 117 => ⟨S2x8192x1024, .f32⟩
  | 118 => ⟨S2x8192x1024, .f32⟩
  | 119 => ⟨S_, .f32⟩
  | 120 => ⟨S2x8192x1, .f32⟩
  | 121 => ⟨S2x8192x1, .f32⟩
  | 122 => ⟨S2x8192x1, .f32⟩
  | 123 => ⟨S2x8192x1024, .f32⟩
  | 124 => ⟨S2x8192x1024, .f32⟩
  | 125 => ⟨S1x1x1024, .f32⟩
  | 126 => ⟨S2x8192x1024, .f32⟩
  | 127 => ⟨S2x8192x1024, .f32⟩
  | _ => ⟨S2x8192x1024, .f32⟩

abbrev hbmTy0_2 (i : Nat) : BufTy := match i % 128 with
  | 0 => ⟨S1x1x1024, .f32⟩
  | 1 => ⟨S2x8192x1024, .f32⟩
  | 2 => ⟨S2x8192x1024, .f32⟩
  | 3 => ⟨S2x8192x1024, .f32⟩
  | 4 => ⟨S2x8192x1024, .f32⟩
  | 5 => ⟨S_, .f32⟩
  | 6 => ⟨S2x8192x1024, .f32⟩
  | 7 => ⟨S2x8192x1024, .f32⟩
  | 8 => ⟨S_, .f32⟩
  | 9 => ⟨S2x8192x1024, .f32⟩
  | 10 => ⟨S2x8192x1024, .f32⟩
  | 11 => ⟨S2x8192x1024, .f32⟩
  | 12 => ⟨S2x8192x1024, .f32⟩
  | 13 => ⟨S2x8192x1024, .f32⟩
  | 14 => ⟨S2x8192x1024, .f32⟩
  | 15 => ⟨S_, .f32⟩
  | 16 => ⟨S2x8192x1024, .f32⟩
  | 17 => ⟨S2x8192x1024, .f32⟩
  | 18 => ⟨S_, .f32⟩
  | 19 => ⟨S2x8192x1024, .f32⟩
  | 20 => ⟨S2x8192x1024, .f32⟩
  | 21 => ⟨S2x8192x1024, .f32⟩
  | 22 => ⟨S2x8192x1024, .f32⟩
  | 23 => ⟨S2x8192x1024, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_cst_0 : Ref sig .tc := ⟨.hbm, 230, rfl⟩
abbrev main_v222 : Ref sig .tc := ⟨.hbm, 231, rfl⟩
abbrev main_v223 : Ref sig .tc := ⟨.hbm, 232, rfl⟩
abbrev main_cst_1 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_cst_2 : Ref sig .tc := ⟨.hbm, 239, rfl⟩
abbrev main_v229 : Ref sig .tc := ⟨.hbm, 240, rfl⟩
abbrev main_v230 : Ref sig .tc := ⟨.hbm, 241, rfl⟩
abbrev main_cst_3 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_cst_4 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_call0_v0 : Ref sig .tc := ⟨.hbm, 259, rfl⟩
abbrev main_call0_v1 : Ref sig .tc := ⟨.hbm, 260, rfl⟩
abbrev main_call0_cst : Ref sig .tc := ⟨.hbm, 261, rfl⟩
abbrev main_call0_v2 : Ref sig .tc := ⟨.hbm, 262, rfl⟩
abbrev main_call0_v3 : Ref sig .tc := ⟨.hbm, 263, rfl⟩
abbrev main_call0_cst_0 : Ref sig .tc := ⟨.hbm, 264, rfl⟩
abbrev main_call0_v4 : Ref sig .tc := ⟨.hbm, 265, rfl⟩
abbrev main_call0_v5 : Ref sig .tc := ⟨.hbm, 266, rfl⟩
abbrev main_v246 : Ref sig .tc := ⟨.hbm, 267, rfl⟩
abbrev main_v247 : Ref sig .tc := ⟨.hbm, 268, rfl⟩
abbrev main_call1_v0 : Ref sig .tc := ⟨.hbm, 269, rfl⟩
abbrev main_call1_v1 : Ref sig .tc := ⟨.hbm, 270, rfl⟩
abbrev main_call1_cst : Ref sig .tc := ⟨.hbm, 271, rfl⟩
abbrev main_call1_v2 : Ref sig .tc := ⟨.hbm, 272, rfl⟩
abbrev main_call1_v3 : Ref sig .tc := ⟨.hbm, 273, rfl⟩
abbrev main_call1_cst_0 : Ref sig .tc := ⟨.hbm, 274, rfl⟩
abbrev main_call1_v4 : Ref sig .tc := ⟨.hbm, 275, rfl⟩
abbrev main_call1_v5 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩

abbrev nD : Nat := 1
abbrev τ : Topo := Topo.v7x

variable {F : FTy → Type} [FloatOps F]
-- ==== Proof.Attn.Real.lean ====
/- The arithmetic of one stick-breaking weight over the extended reals: the softplus in base two of a score scaled by `1 / log 2` is the natural softplus scaled by
   `1 / log 2`, and the weight computed in base two is the weight computed with the natural exponential. -/
module

public import Idealize.ShloMosaic.PureOps.Ideal

@[expose] public section

noncomputable section

namespace Cert.Attn

open Idealize.ShloMosaic

/-- The reciprocal of the natural logarithm of two. -/
def L2E : EReal := (((Real.log 2)⁻¹ : ℝ) : EReal)

/-- The natural softplus, in the form in which the reference computes it. -/
def spE (x : EReal) : EReal := max x 0 + Ideal.log1p (Ideal.exp (-(max x (-x))))

/-- The softplus in base two, in the form in which the kernel computes it. -/
def sp2E (x : EReal) : EReal := max x 0 + Ideal.log (1 + Ideal.exp2 (0 - max x (-x))) * L2E

theorem log2_pos : 0 < Real.log 2 := Real.log_pos (by norm_num)

theorem L2E_real_pos : 0 < (Real.log 2)⁻¹ := inv_pos.mpr log2_pos

theorem top_mul_L2E : (⊤ : EReal) * L2E = ⊤ := EReal.top_mul_coe_of_pos L2E_real_pos

theorem bot_mul_L2E : (⊥ : EReal) * L2E = ⊥ := EReal.bot_mul_coe_of_pos L2E_real_pos

/-- The real softplus. -/
def spR (r : ℝ) : ℝ := max r 0 + Real.log (1 + Real.exp (-(max r (-r))))

theorem coe_max' (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem spE_coe (r : ℝ) : spE (r : EReal) = (spR r : EReal) := by
  have h1 : ¬ (1 + Real.exp (-(max r (-r))) ≤ 0) := not_le.mpr (by positivity)
  unfold spE spR Ideal.log1p
  rw [← EReal.coe_neg, ← coe_max', ← EReal.coe_neg, Ideal.exp_coe, ← EReal.coe_one, ← EReal.coe_add, Ideal.log_coe, if_neg h1, ← EReal.coe_zero, ← coe_max',
    ← EReal.coe_add]

theorem spE_bot : spE ⊥ = 0 := by
  simp [spE, Ideal.log1p]
  rw [← EReal.coe_one, Ideal.log_coe]; simp

theorem spE_top : spE ⊤ = ⊤ := by
  simp [spE, Ideal.log1p]
  rw [← EReal.coe_one, Ideal.log_coe]; simp

theorem spR_nonneg (r : ℝ) : 0 ≤ spR r := by
  unfold spR
  have : 0 ≤ Real.log (1 + Real.exp (-(max r (-r)))) := Real.log_nonneg (by have := Real.exp_pos (-(max r (-r))); linarith)
  have : 0 ≤ max r 0 := le_max_right _ _
  linarith

theorem spE_nonneg (x : EReal) : 0 ≤ spE x := by
  induction x using EReal.rec with
  | bot => rw [spE_bot]
  | top => rw [spE_top]; exact le_top
  | coe r => rw [spE_coe]; exact EReal.coe_nonneg.mpr (spR_nonneg r)

theorem exp2_scale (r : ℝ) : Ideal.exp2 ((r : EReal) * L2E) = Ideal.exp (r : EReal) := by
  unfold L2E
  rw [← EReal.coe_mul, Ideal.exp2_coe, Ideal.exp_coe]
  congr 1
  show (2 : ℝ) ^ (r * (Real.log 2)⁻¹) = _
  rw [Real.rpow_def_of_pos (by norm_num)]
  congr 1
  have := log2_pos.ne'
  field_simp

/-- Base two at a scaled argument is the natural exponential. -/
theorem exp2_mul (x : EReal) : Ideal.exp2 (x * L2E) = Ideal.exp x := by
  induction x using EReal.rec with
  | bot => rw [bot_mul_L2E]; rfl
  | top => rw [top_mul_L2E]; rfl
  | coe r => exact exp2_scale r

theorem neg_mul_L2E (x : EReal) : -(x * L2E) = (-x) * L2E := (EReal.neg_mul _ _).symm

theorem max_mul_L2E (x y : EReal) : max (x * L2E) (y * L2E) = max x y * L2E := by
  have hL : (0 : EReal) ≤ L2E := EReal.coe_nonneg.mpr L2E_real_pos.le
  rcases le_total x y with h | h
  · rw [max_eq_right h, max_eq_right (mul_le_mul_of_nonneg_right h hL)]
  · rw [max_eq_left h, max_eq_left (mul_le_mul_of_nonneg_right h hL)]

theorem add_mul_L2E (x y : EReal) : (x + y) * L2E = x * L2E + y * L2E :=
  EReal.right_distrib_of_nonneg_of_ne_top (EReal.coe_nonneg.mpr L2E_real_pos.le) (EReal.coe_ne_top _) x y

theorem sub_mul_L2E (x y : EReal) : (x - y) * L2E = x * L2E - y * L2E := by
  rw [sub_eq_add_neg, add_mul_L2E, sub_eq_add_neg, neg_mul_L2E]

/-- The softplus in base two of a scaled score is the scaled softplus. -/
theorem sp2E_mul (x : EReal) : sp2E (x * L2E) = spE x * L2E := by
  unfold sp2E spE Ideal.log1p
  rw [zero_sub, neg_mul_L2E, max_mul_L2E, neg_mul_L2E, exp2_mul, add_mul_L2E]
  congr 1
  rw [← max_mul_L2E, zero_mul]

/-- One weight: in base two over scaled scores, and with the natural exponential over the sum of the logarithms. -/
theorem weight_eq (z S : EReal) (hS : 0 ≤ S) :
    Ideal.exp2 ((z * L2E - spE z * L2E) - S * L2E) = Ideal.exp (-(spE (-z)) + ((-(spE z) + -S) - -(spE z))) := by
  rw [← sub_mul_L2E, ← sub_mul_L2E, exp2_mul]
  congr 1
  induction z using EReal.rec with
  | bot => simp [spE_bot, spE_top]
  | top =>
    rw [spE_top]
    have : (⊤ : EReal) - ⊤ = ⊥ := rfl
    rw [this]
    simp
  | coe r =>
    rw [← EReal.coe_neg, spE_coe, spE_coe]
    induction S using EReal.rec with
    | bot => simp at hS
    | top =>
      have : ((r : EReal) - (spR r : EReal)) - ⊤ = ⊥ := by rw [sub_eq_add_neg _ (⊤ : EReal), EReal.neg_top, EReal.add_bot]
      rw [this, EReal.neg_top, EReal.add_bot]
      simp
    | coe s =>
      norm_cast
      have : r - spR r = - spR (-r) := by
        unfold spR
        rw [neg_neg, max_comm (-r) r]
        rcases le_total r 0 with h | h
        · rw [max_eq_right h, max_eq_left (by linarith : (0:ℝ) ≤ -r)]; ring
        · rw [max_eq_left h, max_eq_right (by linarith : -r ≤ (0:ℝ))]; ring
      linarith

end Cert.Attn

end
-- ==== Proof.Attn.Row.lean ====
/- One row of the attention weights over natural-number key places: the kernel's form (base two, a sum carried block by block) and the reference's form (natural logarithms,
   a running sum less the element itself), and that they are equal.  `N` is the number of keys, `g` the scaled scores of the row, `z` the scores, `t` the place of the query. -/
module

public import proofs.«01_k».proof.Proof.Attn.Real
public import Mathlib.Algebra.BigOperators.Intervals

@[expose] public section

noncomputable section

namespace Cert.Attn

open Idealize.ShloMosaic Finset

/-- The softplus of the score at key `k`, nothing at the query's place or later. -/
def FK (g : ℕ → EReal) (t k : ℕ) : EReal := if k < t then sp2E (g k) else 0

/-- The kernel's weight of key `k`. -/
def AK (N : ℕ) (g : ℕ → EReal) (t k : ℕ) : EReal :=
  if k < t then Ideal.exp2 ((g k - sp2E (g k)) - ∑ j ∈ Ico (k + 1) N, FK g t j) else 0

/-- The reference's logarithm of the part kept at key `k`. -/
def LK (z : ℕ → EReal) (t k : ℕ) : EReal := if k < t then -(spE (-(-(z k)))) else 0

/-- The reference's weight of key `k`. -/
def AR (N : ℕ) (z : ℕ → EReal) (t k : ℕ) : EReal :=
  if k < t then Ideal.exp (-(spE (-(z k))) + ((∑ j ∈ Ico k N, LK z t j) - LK z t k)) else 0

theorem sum_mul_L2E (s : Finset ℕ) (f : ℕ → EReal) : (∑ j ∈ s, f j) * L2E = ∑ j ∈ s, f j * L2E := by
  classical
  induction s using Finset.induction_on with
  | empty => simp
  | insert a s ha ih => rw [sum_insert ha, sum_insert ha, add_mul_L2E, ih]

theorem sum_neg_of_nonneg (s : Finset ℕ) (f : ℕ → EReal) (hf : ∀ j, 0 ≤ f j) : ∑ j ∈ s, -(f j) = -(∑ j ∈ s, f j) := by
  classical
  have hb : ∀ x : EReal, 0 ≤ x → x ≠ ⊥ := fun x hx h => by rw [h] at hx; simp at hx
  induction s using Finset.induction_on with
  | empty => simp
  | insert a s ha ih =>
    rw [sum_insert ha, sum_insert ha, ih, EReal.neg_add (.inl (hb _ (hf a))) (.inr (hb _ (sum_nonneg fun j _ => hf j))), sub_eq_add_neg]

/-- The kernel's weight is the reference's. -/
theorem AK_eq_AR (N : ℕ) (g z : ℕ → EReal) (t k : ℕ) (hk : k < N) (hg : ∀ j, j < N → g j = z j * L2E) : AK N g t k = AR N z t k := by
  unfold AK AR
  by_cases h : k < t
  · rw [if_pos h, if_pos h, Finset.sum_eq_sum_Ico_succ_bot hk, hg k hk, sp2E_mul]
    let f : ℕ → EReal := fun j => if j < t then spE (z j) else 0
    have hf : ∀ j, 0 ≤ f j := fun j => by
      show 0 ≤ ite _ _ _
      split
      · exact spE_nonneg _
      · exact le_rfl
    have e1 : ∑ j ∈ Ico (k + 1) N, FK g t j = (∑ j ∈ Ico (k + 1) N, f j) * L2E := by
      rw [sum_mul_L2E]
      refine sum_congr rfl fun j hj => ?_
      show ite _ _ _ = (ite _ _ _) * L2E
      rw [hg j (mem_Ico.mp hj).2, sp2E_mul]
      split
      · rfl
      · rw [zero_mul]
    have e2 : ∑ j ∈ Ico (k + 1) N, LK z t j = -(∑ j ∈ Ico (k + 1) N, f j) := by
      rw [← sum_neg_of_nonneg _ _ hf]
      refine sum_congr rfl fun j _ => ?_
      show ite _ _ _ = -(ite _ _ _)
      rw [neg_neg]
      split
      · rfl
      · rw [neg_zero]
    have e3 : LK z t k = -(spE (z k)) := by unfold LK; rw [if_pos h, neg_neg]
    rw [e1, e2, e3]
    exact weight_eq _ _ (sum_nonneg fun j _ => hf j)
  · rw [if_neg h, if_neg h]

theorem sum_block (f : ℕ → EReal) (b : ℕ) : ∑ c : Fin 256, f (256 * b + c.val) = ∑ k ∈ Ico (256 * b) (256 * (b + 1)), f k := by
  rw [sum_Ico_eq_sum_range, Fin.sum_univ_eq_sum_range (fun c => f (256 * b + c)) 256]
  congr 1
  congr 1
  omega

/-- A block's sum added to the sum over the blocks after it. -/
theorem acc_block (N : ℕ) (p : ℕ → EReal) (b : ℕ) (h : 256 * (b + 1) ≤ N) :
    (∑ k ∈ Ico (256 * (b + 1)) N, p k) + ∑ c : Fin 256, p (256 * b + c.val) = ∑ k ∈ Ico (256 * b) N, p k := by
  rw [sum_block, add_comm, sum_Ico_consecutive _ (by omega) h]

/-- The sum over the later places of a block, added to the sum over the blocks after it. -/
theorem later_block (N : ℕ) (f : ℕ → EReal) (b : ℕ) (c : Fin 256) (h : 256 * (b + 1) ≤ N) :
    (∑ d : Fin 256, f (256 * b + d.val) * (if c < d then 1 else 0)) + (∑ k ∈ Ico (256 * (b + 1)) N, f k)
      = ∑ k ∈ Ico (256 * b + c.val + 1) N, f k := by
  have hc := c.isLt
  rw [← sum_Ico_consecutive f (show 256 * b + c.val + 1 ≤ 256 * (b + 1) by omega) h]
  congr 1
  have e : ∀ d : Fin 256, f (256 * b + d.val) * (if c < d then (1 : EReal) else 0) = (fun k => if 256 * b + c.val < k then f k else 0) (256 * b + d.val) := by
    intro d
    show _ = ite _ _ _
    by_cases hd : c < d
    · rw [if_pos hd, if_pos (by have : c.val < d.val := hd; omega), mul_one]
    · rw [if_neg hd, if_neg (by have : ¬ c.val < d.val := hd; omega), mul_zero]
  rw [sum_congr rfl fun d _ => e d, sum_block (fun k => if 256 * b + c.val < k then f k else 0), ← sum_filter]
  refine sum_congr ?_ fun _ _ => rfl
  ext k
  simp only [mem_filter, mem_Ico]
  omega

/-- The sum over a block and those after it, from the sum less the block's first place. -/
theorem next_block (N : ℕ) (f : ℕ → EReal) (b : ℕ) (h : 256 * (b + 1) ≤ N) :
    (∑ k ∈ Ico (256 * b + 0 + 1) N, f k) + f (256 * b) = ∑ k ∈ Ico (256 * b) N, f k := by
  rw [sum_eq_sum_Ico_succ_bot (show 256 * b < N by omega), add_comm]

theorem FK_sum_zero (N : ℕ) (g : ℕ → EReal) (t a : ℕ) (h : t ≤ a) : ∑ k ∈ Ico a N, FK g t k = 0 :=
  sum_eq_zero fun k hk => if_neg (by have := (mem_Ico.mp hk).1; omega)

theorem AK_zero (N : ℕ) (g : ℕ → EReal) (t k : ℕ) (h : t ≤ k) : AK N g t k = 0 := if_neg (by omega)

theorem AKv_sum_zero (N : ℕ) (g v : ℕ → EReal) (t a : ℕ) (h : t ≤ a) : ∑ k ∈ Ico a N, AK N g t k * v k = 0 :=
  sum_eq_zero fun k hk => by rw [AK_zero N g t k (by have := (mem_Ico.mp hk).1; omega), zero_mul]

end Cert.Attn

end
-- ==== Proof.Attn.Trip.lean ====
module

public import proofs.«01_k».proof.Proof.Gen.KernelIdeal.Loops
public import Idealize.ShloMosaic.Lib.Pipeline.ValueKit
public import Idealize.ShloMosaic.Lib.Pipeline.ReadBack
public import Idealize.ShloMosaic.Lib.Pointwise
public import proofs.«01_k».proof.Proof.Attn.Row

@[expose] public section

set_option maxRecDepth 16384

noncomputable section

namespace Cert.KernelIdeal.Attn

open Idealize.ShloMosaic Idealize.ShloMosaic.TcCoe Idealize.ShloMosaic.Tactic
open Cert.KernelIdeal.Gen

variable  (𝒱 : Variants) (c : Dev nD) (bd : Option 𝒱.V) (i : grid0.Coords) (arg3 : Memref sig .tc .smem S16 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x256x128 .f32) (harg7 : arg7.IsWhole) (arg8 : Memref sig .tc .vmem S256x256 .bf16) (harg8 : arg8.IsWhole) (arg9 : Memref sig .tc .vmem S1x256x128 .bf16) (harg9 : arg9.IsWhole) (arg10 : Memref sig .tc .vmem S2x256x256 .bf16) (harg10 : arg10.IsWhole) (arg11 : Memref sig .tc .vmem S2x256x256 .f32) (harg11 : arg11.IsWhole) (arg12 : Memref sig .tc .vmem S2x256x256 .bf16) (harg12 : arg12.IsWhole) (arg13 : Memref sig .tc .vmem S2x256x128 .f32) (harg13 : arg13.IsWhole) (v3 : IVec S256x128 32) (v5 : FVec Ideal S256x128 .bf16) (v8 : FVec Ideal S256x128 .bf16) (v11 : FVec Ideal S256x128 .bf16) (v15 : Ideal .f32) (v20 : Ideal .f32) (v22 : FVec Ideal S256x256 .bf16) (v26 : FVec Ideal S256x128 .f32) (v44 : BitVec 32) (v525 : FVec Ideal S256x1 .f32) (v834 : FVec Ideal S256x256 .f32) (v991 : FVec Ideal S32x256 .bf16) (X_arg5 : BufTy.Contents (Elt Ideal) arg5.view.ty) (X_arg6 : BufTy.Contents (Elt Ideal) arg6.view.ty) (k : Fin (k0_t1_loop i).trips)
variable (acc : FVec Ideal S256x256 .f32 × FVec Ideal S256x256 .f32 × FVec Ideal S256x1 .f32 × FVec Ideal S256x1 .f32 × FVec Ideal S256x128 .f32 × FVec Ideal S256x128 .f32) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)

open Cert.Attn

/-- The softplus (in base two) of the two heads' scores `s0`, `s1` with biases `b0`, `b1`. -/
def G10 (b0 b1 : EReal) (s0 s1 : S256x256.Idx → EReal) : S2x256x256.Idx → EReal := fun y =>
  if (y 0).val = 0 then sp2E (s0 (ix2 (y 1) (y 2)) + b0) else sp2E (s1 (ix2 (y 1) (y 2)) + b1)

/-- The biased scores less their softplus, of the two heads. -/
def G11 (b0 b1 : EReal) (s0 s1 : S256x256.Idx → EReal) : S2x256x256.Idx → EReal := fun y =>
  if (y 0).val = 0 then (s0 (ix2 (y 1) (y 2)) + b0) - sp2E (s0 (ix2 (y 1) (y 2)) + b0)
  else (s1 (ix2 (y 1) (y 2)) + b1) - sp2E (s1 (ix2 (y 1) (y 2)) + b1)

/-- The first 128 columns of the softplus, of the two heads. -/
def G13 (b0 b1 : EReal) (s0 s1 : S256x256.Idx → EReal) : S2x256x128.Idx → EReal := fun y =>
  if (y 0).val = 0 then sp2E (s0 (ix2 (y 1) ⟨(y 2).val, Nat.lt_trans (y 2).isLt (by decide)⟩) + b0)
  else sp2E (s1 (ix2 (y 1) ⟨(y 2).val, Nat.lt_trans (y 2).isLt (by decide)⟩) + b1)

/-- What a row `r` of one head has summed up at column `k`: the softplus of the block's later columns, and what the later
    blocks left. -/
def TOT (b : EReal) (s : S256x256.Idx → EReal) (tri : S256x256.Idx → EReal) (c : S256x1.Idx → EReal) (r : Fin 256) (k : Fin 256) : EReal :=
  ∑ d : Fin 256, sp2E (s (ix2 r d) + b) * tri (ix2 d k) + c (ix2 r 0)

/-- The attention weight of one head at row `r`, column `k`. -/
def AA (b : EReal) (s : S256x256.Idx → EReal) (tri : S256x256.Idx → EReal) (c : S256x1.Idx → EReal) (r : Fin 256) (k : Fin 256) : EReal :=
  Idealize.ShloMosaic.Ideal.exp2 (((s (ix2 r k) + b) - sp2E (s (ix2 r k) + b)) - TOT b s tri c r k)

/-- The weights of the two heads. -/
def G12 (b0 b1 : EReal) (s0 s1 : S256x256.Idx → EReal) (tri : S256x256.Idx → EReal) (c0 c1 : S256x1.Idx → EReal) : S2x256x256.Idx → EReal := fun y =>
  if (y 0).val = 0 then AA b0 s0 tri c0 (y 1) (y 2) else AA b1 s1 tri c1 (y 1) (y 2)

theorem slab_emb {n r : ℕ} {h : ∀ a, (![n, r, 0] : Fin 3 → ℕ) a + S1x32x256.size a ≤ S2x256x256.size a}
    (x : S1x32x256.Idx) (hn : n < 2) (hr : r + (x 1).val < 256) :
    (Rect.unit (s := S2x256x256) ![n, r, 0] S1x32x256.size h).emb x = ix3 ⟨n, hn⟩ ⟨r + (x 1).val, hr⟩ (x 2) := by
  funext a
  apply Fin.ext
  have h0 : (x 0).val = 0 := by have := (x 0).isLt; change _ < 1 at this; omega
  fin_cases a
  · show n + 1 * (x 0).val = n; omega
  · show r + 1 * (x 1).val = r + (x 1).val; omega
  · show 0 + 1 * (x 2).val = (x 2).val; omega

theorem slab_lt (x : S1x32x256.Idx) (r : ℕ) (h : r + 32 ≤ 256) : r + (x 1).val < 256 := by
  have := (x 1).isLt; change _ < 32 at this; omega

theorem lane_emb {n r : ℕ} {h : ∀ a, (![n, r, 0] : Fin 3 → ℕ) a + S1x32x128.size a ≤ S2x256x128.size a}
    (x : S1x32x128.Idx) (hn : n < 2) (hr : r + (x 1).val < 256) :
    (Rect.unit (s := S2x256x128) ![n, r, 0] S1x32x128.size h).emb x = ix3 ⟨n, hn⟩ ⟨r + (x 1).val, hr⟩ (x 2) := by
  funext a
  apply Fin.ext
  have h0 : (x 0).val = 0 := by have := (x 0).isLt; change _ < 1 at this; omega
  fin_cases a
  · show n + 1 * (x 0).val = n; omega
  · show r + 1 * (x 1).val = r + (x 1).val; omega
  · show 0 + 1 * (x 2).val = (x 2).val; omega

theorem lane_lt (x : S1x32x128.Idx) (r : ℕ) (h : r + 32 ≤ 256) : r + (x 1).val < 256 := by
  have := (x 1).isLt; change _ < 32 at this; omega

theorem PiecesOf_cons {s : Shape} {e : EltTy} {G : s.Idx → Elt Idealize.ShloMosaic.Ideal e} {p : View.Piece (Elt Idealize.ShloMosaic.Ideal) s e} {L}
    (h : ∀ x : p.1.shape.Idx, p.2 x = G (p.1.emb x)) (hL : View.PiecesOf G L) : View.PiecesOf G (p :: L) := ⟨h, hL⟩

/-- A load from stores that all write parts of one function `G` and cover what is loaded reads `G`. -/
theorem readCov_pieces {κ : Kind} {sp : Space} {s : Shape} {e : EltTy} (v : View sig κ sp s e) (L : List (View.Piece (Elt Idealize.ShloMosaic.Ideal) s e)) (B : LoadRect s)
    (G : s.Idx → Elt Idealize.ShloMosaic.Ideal e)
    (hG : View.PiecesOf G L) (hc : ∀ j : B.shape.Idx, ∃ p ∈ L, B.idx j ∈ p.1.set) : v.readCov L B = fun j => G (B.idx j) := by
  rw [View.readCov_eq_canon']
  funext j
  exact View.canon_apply_of_pieces G L hG.mem _ (hc j)

/-- A load of what has just been stored. -/
theorem readCov_same {κ : Kind} {sp : Space} {s : Shape} {e : EltTy} (v : View sig κ sp s e) (r : Rect s)
    (w : r.shape.Idx → Elt Idealize.ShloMosaic.Ideal e) (L : List (View.Piece (Elt Idealize.ShloMosaic.Ideal) s e)) :
    v.readCov (Val := Elt Idealize.ShloMosaic.Ideal) (⟨r, w⟩ :: L) r.toLoadRect = w := by
  rw [View.readCov_eq_canon']
  funext j
  exact View.canon_cons_emb _ _ _ _

/-- The softplus of head 0, read back. -/
theorem trip_sp0 : trip_k0_t1.sl.v1297 arg10 v15 acc = fun j => sp2E (acc.1 (ix2 (j 1) (j 2)) + v15) := by
  frame_open
  rw [readCov_pieces _ _ _ (G10 v15 v15 acc.1 acc.2.1)]
  · funext j; pointwise; rfl
  · repeat' first | exact trivial | refine PiecesOf_cons ?_ ?_
    all_goals
      intro x
      rw [slab_emb x (by norm_num) (slab_lt x _ (by norm_num))]
      unfold_payloads
      pointwise
      rfl
  · intro j
    simp only [List.mem_cons, exists_eq_or_imp, exists_eq_left, List.not_mem_nil, false_and, exists_false, or_false, Rect.mem_set_unit]
    have h0 : (j 0).val < 1 := (j 0).isLt
    have h1 : (j 1).val < 256 := (j 1).isLt
    have h2 : (j 2).val < 256 := (j 2).isLt
    simp [Fin.forall_fin_succ]
    omega

/-- The softplus of head 1, read back. -/
theorem trip_sp1 : trip_k0_t1.sl.v1595 arg10 v15 v20 acc = fun j => sp2E (acc.2.1 (ix2 (j 1) (j 2)) + v20) := by
  frame_open
  rw [readCov_pieces _ _ _ (G10 v15 v20 acc.1 acc.2.1)]
  · funext j; pointwise; rfl
  · repeat' first | exact trivial | refine PiecesOf_cons ?_ ?_
    all_goals
      intro x
      rw [slab_emb x (by norm_num) (slab_lt x _ (by norm_num))]
      unfold_payloads
      pointwise
      rfl
  · intro j
    simp only [List.mem_cons, exists_eq_or_imp, exists_eq_left, List.not_mem_nil, false_and, exists_false, or_false, Rect.mem_set_unit]
    have h0 : (j 0).val < 1 := (j 0).isLt
    have h1 : (j 1).val < 256 := (j 1).isLt
    have h2 : (j 2).val < 256 := (j 2).isLt
    simp [Fin.forall_fin_succ]
    omega

/-- What head 0's rows have summed up after the trip. -/
theorem trip_c0 : trip_k0_t1.sl.r_13 arg10 arg13 v15 v22 acc
    = fun j => TOT v15 acc.1 v22 acc.2.2.1 (j 0) 0 + sp2E (acc.1 (ix2 (j 0) 0) + v15) := by
  have h0 := trip_sp0 arg10 v15 acc
  frame_open at h0
  frame_open
  rw [h0, readCov_pieces _ _ _ (G13 v15 v15 acc.1 acc.2.1)]
  · funext j
    unfold_payloads
    pointwise
    rfl
  · repeat' first | exact trivial | refine PiecesOf_cons ?_ ?_
    all_goals
      intro x
      rw [lane_emb x (by norm_num) (lane_lt x _ (by norm_num))]
      unfold_payloads
      pointwise
      rfl
  · intro j
    simp only [List.mem_cons, exists_eq_or_imp, exists_eq_left, List.not_mem_nil, false_and, exists_false, or_false, Rect.mem_set_unit]
    have h0 : (j 0).val < 1 := (j 0).isLt
    have h1 : (j 1).val < 256 := (j 1).isLt
    have h2 : (j 2).val < 128 := (j 2).isLt
    simp [Fin.forall_fin_succ]
    omega

/-- What head 1's rows have summed up after the trip. -/
theorem trip_c1 : k0_pay394 (trip_k0_t1.sl.r_24 arg10 v15 v20 v22 acc) (trip_k0_t1.sl.v1673 arg13 v15 v20 acc)
    = fun j => TOT v20 acc.2.1 v22 acc.2.2.2.1 (j 0) 0 + sp2E (acc.2.1 (ix2 (j 0) 0) + v20) := by
  have h0 := trip_sp1 arg10 v15 v20 acc
  frame_open at h0
  frame_open
  rw [h0, readCov_pieces _ _ _ (G13 v15 v20 acc.1 acc.2.1)]
  · funext j
    unfold_payloads
    pointwise
    rfl
  · repeat' first | exact trivial | refine PiecesOf_cons ?_ ?_
    all_goals
      intro x
      rw [lane_emb x (by norm_num) (lane_lt x _ (by norm_num))]
      unfold_payloads
      pointwise
      rfl
  · intro j
    simp only [List.mem_cons, exists_eq_or_imp, exists_eq_left, List.not_mem_nil, false_and, exists_false, or_false, Rect.mem_set_unit]
    have h0 : (j 0).val < 1 := (j 0).isLt
    have h1 : (j 1).val < 256 := (j 1).isLt
    have h2 : (j 2).val < 128 := (j 2).isLt
    simp [Fin.forall_fin_succ]
    omega

set_option maxHeartbeats 4000000 in
/-- The weights the trip leaves for the two heads. -/
theorem trip_w (y) : arg12.view.read _ (arg12.view.writes (Elt Idealize.ShloMosaic.Ideal) f12 ((trip_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 k).2.2.2.1 acc f10 f11 f12 f13)) y = G12 v15 v20 acc.1 acc.2.1 v22 acc.2.2.1 acc.2.2.2.1 y := by
  have ht0 := trip_sp0 arg10 v15 acc
  have ht1 := trip_sp1 arg10 v15 v20 acc
  frame_open at ht0
  frame_open at ht1
  unfold trip_k0_t1
  dsimp only
  refine View.read_writes_apply_of_pieces _ _ _ _ (View.PiecesOf.mem ?_) y ?_
  · repeat' first | exact trivial | refine PiecesOf_cons ?_ ?_
    all_goals
      intro x
      rw [slab_emb x (by norm_num) (slab_lt x _ (by norm_num))]
      frame_open
      first | rw [ht0] | rw [ht1]
      simp (config := {decide := true}) only [↓View.readCov_skip]
      rw [readCov_same]
      unfold_payloads
      pointwise
      rfl
  · frame_open
    simp only [List.mem_cons, exists_eq_or_imp, exists_eq_left, List.not_mem_nil, false_and, exists_false, or_false, Rect.mem_set_unit]
    have h0 : (y 0).val < 2 := (y 0).isLt
    have h1 : (y 1).val < 256 := (y 1).isLt
    have h2 : (y 2).val < 256 := (y 2).isLt
    simp [Fin.forall_fin_succ]
    omega

end Cert.KernelIdeal.Attn

end
-- ==== Proof.Attn.Words.lean ====
module

public import proofs.«01_k».proof.Proof.Gen.KernelIdeal
public import Idealize.ShloMosaic.Lib.WordCmp
public import Idealize.ShloMosaic.Lib.Pointwise

@[expose] public section

noncomputable section

namespace Cert.KernelIdeal.Attn

open Idealize.ShloMosaic Idealize.ShloMosaic.WordCmp Cert.KernelIdeal

/-- The causal mask of the diagonal block: column `c` before row `q + r`. -/
theorem mask_select (a c r q : ℕ) (ha : a < 32) (hc : c < 256) (hr : r < 32) (hq : q < 256) (x y : EReal) :
    Scalar.select (IntOp.cmpi .slt (IntOp.addi (BitVec.ofNat 32 c) (Scalar.muli (BitVec.ofNat 32 a) 256#32))
      (IntOp.addi (BitVec.ofNat 32 r)
        (Scalar.addi (Scalar.addi (Scalar.muli (BitVec.ofNat 32 a) 256#32) 0#32) (BitVec.ofNat 32 q)))) x y
      = if c < q + r then x else y := by
  have e1 : IntOp.addi (BitVec.ofNat 32 c) (Scalar.muli (BitVec.ofNat 32 a) 256#32) = BitVec.ofNat 32 (c + a * 256) := by
    show BitVec.ofNat 32 c + BitVec.ofNat 32 a * BitVec.ofNat 32 256 = _
    rw [← BitVec.ofNat_mul, ← BitVec.ofNat_add]
  have e2 : IntOp.addi (BitVec.ofNat 32 r)
      (Scalar.addi (Scalar.addi (Scalar.muli (BitVec.ofNat 32 a) 256#32) 0#32) (BitVec.ofNat 32 q))
      = BitVec.ofNat 32 (r + (a * 256 + 0 + q)) := by
    show BitVec.ofNat 32 r + (BitVec.ofNat 32 a * BitVec.ofNat 32 256 + BitVec.ofNat 32 0 + BitVec.ofNat 32 q) = _
    rw [← BitVec.ofNat_mul, ← BitVec.ofNat_add, ← BitVec.ofNat_add, ← BitVec.ofNat_add]
  rw [e1, e2, cmpi_slt_ofNat (by norm_num; omega) (by norm_num; omega)]
  unfold Scalar.select
  by_cases h : c < q + r
  · have h' : c + a * 256 < r + (a * 256 + 0 + q) := by omega
    rw [decide_eq_true h', if_pos h]; rfl
  · have h' : ¬ c + a * 256 < r + (a * 256 + 0 + q) := by omega
    rw [decide_eq_false h', if_neg h]; rfl

/-- The lanes of the first head. -/
theorem lane_lt_select (l : ℕ) (hl : l < 128) (x y : EReal) :
    Scalar.select (IntOp.cmpi .slt (BitVec.ofNat 32 l) 64#32) x y = if l < 64 then x else y := by
  rw [cmpi_slt_ofNat (by norm_num; omega) (by norm_num)]
  unfold Scalar.select
  by_cases h : l < 64 <;> simp [h]

/-- The lanes of the second head. -/
theorem lane_ge_select (l : ℕ) (hl : l < 128) (x y : EReal) :
    Scalar.select (IntOp.cmpi .sge (BitVec.ofNat 32 l) 64#32) x y = if 64 ≤ l then x else y := by
  rw [cmpi_sge_ofNat (by norm_num; omega) (by norm_num)]
  unfold Scalar.select
  by_cases h : 64 ≤ l <;> simp [h]

theorem coord2_lt (i : grid0.Coords) : (i 2).val < 32 := (i 2).isLt

/-- The number of the diagonal block, computed as a floored quotient. -/
theorem jd_eq (a : ℕ) (ha : a < 32) :
    Scalar.select
      (Scalar.andi
        (Scalar.cmpi CmpIPredicate.ne
          (Scalar.subi (Scalar.extui (Scalar.cmpi CmpIPredicate.sgt (Scalar.muli (BitVec.ofNat 32 a) 256#32) 0#32))
            (Scalar.extui (Scalar.cmpi CmpIPredicate.slt (Scalar.muli (BitVec.ofNat 32 a) 256#32) 0#32)))
          (Scalar.subi (Scalar.extui (Scalar.cmpi CmpIPredicate.sgt 256#32 0#32))
            (Scalar.extui (Scalar.cmpi CmpIPredicate.slt 256#32 0#32))))
        (Scalar.cmpi CmpIPredicate.ne (Scalar.remsi (Scalar.muli (BitVec.ofNat 32 a) 256#32) 256#32) 0#32))
      (Scalar.subi (Scalar.divsi (Scalar.muli (BitVec.ofNat 32 a) 256#32) 256#32) 1#32)
      (Scalar.divsi (Scalar.muli (BitVec.ofNat 32 a) 256#32) 256#32) = BitVec.ofNat 32 a := by
  revert a
  decide +kernel

/-- The loop makes as many trips as there are blocks before the diagonal one. -/
theorem trips_eq (i : grid0.Coords) : (k0_t1_loop i).trips = (i 2).val := by
  have ha := coord2_lt i
  unfold k0_t1_loop
  dsimp only [Scf.Loop.trips]
  rw [jd_eq _ ha]
  revert ha
  generalize (i 2).val = a
  revert a
  decide +kernel

/-- The remainder loop makes none. -/
theorem trips2_eq (i : grid0.Coords) : (k0_t2_loop i).trips = 0 := by
  have ha := coord2_lt i
  unfold k0_t2_loop
  dsimp only [Scf.Loop.trips]
  rw [jd_eq _ ha]
  revert ha
  generalize (i 2).val = a
  revert a
  decide +kernel

/-- The diagonal block's offset. -/
theorem off3_eq (i : grid0.Coords) : k0_off3 i = ![0, 256 * (i 2).val, 0] := by
  have ha := coord2_lt i
  unfold k0_off3
  dsimp only
  rw [jd_eq _ ha]
  revert ha
  generalize (i 2).val = a
  intro ha
  congr 2
  revert a
  decide +kernel

/-- The offset of the block before the diagonal one. -/
theorem off4_eq (i : grid0.Coords) : k0_off4 i = ![0, 256 * ((i 2).val - 1), 0] := by
  have ha := coord2_lt i
  unfold k0_off4
  dsimp only
  rw [jd_eq _ ha]
  revert ha
  generalize (i 2).val = a
  intro ha
  congr 2
  revert a
  decide +kernel

/-- The offset of the block a trip scores. -/
theorem off5_eq (i : grid0.Coords) (k : Fin (k0_t1_loop i).trips) : k0_off5 i k = ![0, 256 * ((i 2).val - 2 - k.val), 0] := by
  have hb : k.val < (i 2).val := (trips_eq i) ▸ k.isLt
  have ha := coord2_lt i
  unfold k0_off5
  dsimp only
  rw [jd_eq _ ha]
  revert ha hb
  generalize (i 2).val = a
  generalize k.val = b
  intro hb ha
  congr 2
  have key : ∀ a < 32, ∀ b < a, BitVec.toNat
      (Scalar.indexCast (Scalar.muli (Scalar.maxsi (Scalar.subi (Scalar.subi (Scalar.subi (BitVec.ofNat 32 a) 1#32)
        (Scf.iv 0#32 1#32 b)) 1#32) 0#32) 256#32)) = 256 * (a - 2 - b) := by decide +kernel
  exact key a ha b hb

/-- The offset of the block whose values a trip adds. -/
theorem off6_eq (i : grid0.Coords) (k : Fin (k0_t1_loop i).trips) : k0_off6 i k = ![0, 256 * ((i 2).val - k.val), 0] := by
  have hb : k.val < (i 2).val := (trips_eq i) ▸ k.isLt
  have ha := coord2_lt i
  unfold k0_off6
  dsimp only
  rw [jd_eq _ ha]
  revert ha hb
  generalize (i 2).val = a
  generalize k.val = b
  intro hb ha
  congr 2
  have key : ∀ a < 32, ∀ b < a, BitVec.toNat
      (Scalar.indexCast (Scalar.muli (Scalar.addi (Scalar.subi (Scalar.subi (BitVec.ofNat 32 a) 1#32)
        (Scf.iv 0#32 1#32 b)) 1#32) 256#32)) = 256 * (a - b) := by decide +kernel
  exact key a ha b hb

end Cert.KernelIdeal.Attn

end
-- ==== Proof.Attn.Trip2.lean ====
module

public import proofs.«01_k».proof.Proof.Gen.KernelIdeal.Loops
public import Idealize.ShloMosaic.Lib.Pipeline.ValueKit
public import Idealize.ShloMosaic.Lib.Pipeline.ReadBack
public import Idealize.ShloMosaic.Lib.Pointwise
public import proofs.«01_k».proof.Proof.Attn.Trip
public import proofs.«01_k».proof.Proof.Attn.Words

@[expose] public section

set_option maxRecDepth 16384

noncomputable section

namespace Cert.KernelIdeal.Attn

open Idealize.ShloMosaic Idealize.ShloMosaic.TcCoe Idealize.ShloMosaic.Tactic
open Cert.KernelIdeal.Gen

variable  (𝒱 : Variants) (c : Dev nD) (bd : Option 𝒱.V) (i : grid0.Coords) (arg3 : Memref sig .tc .smem S16 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x256x128 .f32) (harg7 : arg7.IsWhole) (arg8 : Memref sig .tc .vmem S256x256 .bf16) (harg8 : arg8.IsWhole) (arg9 : Memref sig .tc .vmem S1x256x128 .bf16) (harg9 : arg9.IsWhole) (arg10 : Memref sig .tc .vmem S2x256x256 .bf16) (harg10 : arg10.IsWhole) (arg11 : Memref sig .tc .vmem S2x256x256 .f32) (harg11 : arg11.IsWhole) (arg12 : Memref sig .tc .vmem S2x256x256 .bf16) (harg12 : arg12.IsWhole) (arg13 : Memref sig .tc .vmem S2x256x128 .f32) (harg13 : arg13.IsWhole) (v3 : IVec S256x128 32) (v5 : FVec Ideal S256x128 .bf16) (v8 : FVec Ideal S256x128 .bf16) (v11 : FVec Ideal S256x128 .bf16) (v15 : Ideal .f32) (v20 : Ideal .f32) (v22 : FVec Ideal S256x256 .bf16) (v26 : FVec Ideal S256x128 .f32) (v44 : BitVec 32) (v525 : FVec Ideal S256x1 .f32) (v834 : FVec Ideal S256x256 .f32) (v991 : FVec Ideal S32x256 .bf16) (X_arg5 : BufTy.Contents (Elt Ideal) arg5.view.ty) (X_arg6 : BufTy.Contents (Elt Ideal) arg6.view.ty) (k : Fin (k0_t1_loop i).trips)
variable (acc : FVec Ideal S256x256 .f32 × FVec Ideal S256x256 .f32 × FVec Ideal S256x1 .f32 × FVec Ideal S256x1 .f32 × FVec Ideal S256x128 .f32 × FVec Ideal S256x128 .f32) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)

open Cert.Attn

/-- Row `256 b + x` of an array of 8192 rows. -/
def blk (b : ℕ) (hb : b < 32) (x : Fin 256) : Fin 8192 := ⟨256 * b + x.val, by omega⟩

/-- A load of 256 rows from row `256 b` on. -/
theorem read_blk {sp : Space} {e : EltTy} (v : View sig .tc sp S1x8192x128 e) (f : BufTy.Contents (Elt Idealize.ShloMosaic.Ideal) v.ty) (off : Fin 3 → ℕ) (b : ℕ) (hb : b < 32)
    (hoff : off = ![0, 256 * b, 0]) (inb) (x : Fin 256) (d : Fin 128) :
    v.readAt (Elt Idealize.ShloMosaic.Ideal) (Rect.unit (s := S1x8192x128) off ![1, 256, 128] inb).toLoadRect f (ix3 0 x d)
      = v.read (Elt Idealize.ShloMosaic.Ideal) f (ix3 0 (blk b hb x) d) := by
  subst hoff
  rw [View.readAt_eq_ld]
  refine View.ld_unit_apply_of _ _ _ _ _ _ ?_
  intro a
  fin_cases a
  · rfl
  · rfl
  · show d.val = 0 + d.val; omega

/-- A load of one of the two slots. -/
theorem read_slot {sp : Space} {e : EltTy} (v : View sig .tc sp S2x256x256 e) (f : BufTy.Contents (Elt Idealize.ShloMosaic.Ideal) v.ty) (n : ℕ) (hn : n < 2)
    (inb) (x y : Fin 256) :
    v.readAt (Elt Idealize.ShloMosaic.Ideal) (Rect.unit (s := S2x256x256) ![n, 0, 0] ![1, 256, 256] inb).toLoadRect f (ix3 0 x y)
      = v.read (Elt Idealize.ShloMosaic.Ideal) f (ix3 ⟨n, hn⟩ x y) := by
  rw [View.readAt_eq_ld]
  refine View.ld_unit_apply_of _ _ _ _ _ _ ?_
  intro a
  fin_cases a
  · rfl
  · show x.val = 0 + x.val; omega
  · show y.val = 0 + y.val; omega

/-- The trips are fewer than the blocks before the diagonal one. -/
theorem k_lt : k.val < (i 2).val := by rw [← trips_eq i]; exact k.isLt
/-- The blocks taken are among the 32. -/
theorem kb_lt (k : ℕ) : (i 2).val - k < 32 := by have := coord2_lt i; omega

/-- The scores of head 0 for the block of keys the trip loads. -/
theorem trip_s0 (y : S256x256.Idx) : ((trip_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 k).1 acc f10 f11 f12 f13).1 y
    = ∑ d : Fin 128, v8 (ix2 (y 0) d) * arg5.view.read (Elt Idealize.ShloMosaic.Ideal) X_arg5 (ix3 0 (blk ((i 2).val - 2 - k.val) (by have := coord2_lt i; omega) (y 1)) d) := by
  unfold trip_k0_t1
  dsimp only
  frame_open
  unfold_payloads
  pointwise
  refine Finset.sum_congr rfl fun d _ => ?_
  exact congrArg _ (read_blk _ _ _ _ _ (off5_eq i k) _ _ _)

/-- The scores of head 1 for the block of keys the trip loads. -/
theorem trip_s1 (y : S256x256.Idx) : ((trip_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 k).1 acc f10 f11 f12 f13).2.1 y
    = ∑ d : Fin 128, v11 (ix2 (y 0) d) * arg5.view.read (Elt Idealize.ShloMosaic.Ideal) X_arg5 (ix3 0 (blk ((i 2).val - 2 - k.val) (by have := coord2_lt i; omega) (y 1)) d) := by
  unfold trip_k0_t1
  dsimp only
  frame_open
  unfold_payloads
  pointwise
  refine Finset.sum_congr rfl fun d _ => ?_
  exact congrArg _ (read_blk _ _ _ _ _ (off5_eq i k) _ _ _)

/-- The weighted values of head 0 after the trip. -/
theorem trip_a0 (y : S256x128.Idx) (hv3 : ∀ y : S256x128.Idx, v3 y = BitVec.ofNat 32 (y 1).val) (hv5 : ∀ y, v5 y = 0) : ((trip_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 k).1 acc f10 f11 f12 f13).2.2.2.2.1 y
    = acc.2.2.2.2.1 y + ∑ x : Fin 256, arg12.view.read (Elt Idealize.ShloMosaic.Ideal) f12 (ix3 0 (y 0) x) *
        (if (y 1).val < 64 then arg6.view.read (Elt Idealize.ShloMosaic.Ideal) X_arg6 (ix3 0 (blk ((i 2).val - k.val) (by have := coord2_lt i; omega) x) (y 1)) else 0) := by
  unfold trip_k0_t1
  dsimp only
  frame_open
  unfold_payloads
  pointwise
  refine congrArg _ (Finset.sum_congr rfl fun x _ => ?_)
  rw [hv3, hv5]

  exact congrArg₂ _ (read_slot _ _ 0 (by norm_num) _ _ _) ((lane_lt_select _ (y 1).isLt _ _).trans (by
    refine congrArg (fun w => ite _ w _) (read_blk _ _ _ _ _ (off6_eq i k) _ _ _)))

/-- The weighted values of head 1 after the trip. -/
theorem trip_a1 (y : S256x128.Idx) (hv3 : ∀ y : S256x128.Idx, v3 y = BitVec.ofNat 32 (y 1).val) (hv5 : ∀ y, v5 y = 0) : ((trip_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 k).1 acc f10 f11 f12 f13).2.2.2.2.2 y
    = acc.2.2.2.2.2 y + ∑ x : Fin 256, arg12.view.read (Elt Idealize.ShloMosaic.Ideal) f12 (ix3 1 (y 0) x) *
        (if 64 ≤ (y 1).val then arg6.view.read (Elt Idealize.ShloMosaic.Ideal) X_arg6 (ix3 0 (blk ((i 2).val - k.val) (by have := coord2_lt i; omega) x) (y 1)) else 0) := by
  unfold trip_k0_t1
  dsimp only
  frame_open
  unfold_payloads
  pointwise
  refine congrArg _ (Finset.sum_congr rfl fun x _ => ?_)
  rw [hv3, hv5]
  exact congrArg₂ _ (read_slot _ _ 1 (by norm_num) _ _ _) ((lane_ge_select _ (y 1).isLt _ _).trans (by
    refine congrArg (fun w => ite _ w _) (read_blk _ _ _ _ _ (off6_eq i k) _ _ _)))

end Cert.KernelIdeal.Attn

end
-- ==== Proof.Attn.Pro.lean ====
module

public import proofs.«01_k».proof.Proof.Gen.KernelIdeal.Frame
public import proofs.«01_k».proof.Proof.Attn.Trip
public import proofs.«01_k».proof.Proof.Attn.Words
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (i : grid0.Coords) (arg3 : Memref sig .tc .smem S16 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x256x128 .f32) (harg7 : arg7.IsWhole) (arg8 : Memref sig .tc .vmem S256x256 .bf16) (harg8 : arg8.IsWhole) (arg9 : Memref sig .tc .vmem S1x256x128 .bf16) (harg9 : arg9.IsWhole) (arg10 : Memref sig .tc .vmem S2x256x256 .bf16) (harg10 : arg10.IsWhole) (arg11 : Memref sig .tc .vmem S2x256x256 .f32) (harg11 : arg11.IsWhole) (arg12 : Memref sig .tc .vmem S2x256x256 .bf16) (harg12 : arg12.IsWhole) (arg13 : Memref sig .tc .vmem S2x256x128 .f32) (harg13 : arg13.IsWhole)
    (x0 : Vec Idealize.ShloMosaic.Ideal S16 .f32) (x1 : Vec Idealize.ShloMosaic.Ideal S1x256x128 .bf16) (x2 : Vec Idealize.ShloMosaic.Ideal S1x8192x128 .bf16) (x3 : Vec Idealize.ShloMosaic.Ideal S1x8192x128 .bf16) (x4 : Vec Idealize.ShloMosaic.Ideal S1x256x128 .f32) (x5 : Vec Idealize.ShloMosaic.Ideal S256x256 .bf16)

/-- The masked softplus (in base two) of the two heads. -/
def M10 (b0 b1 : EReal) (s0 s1 : S256x256.Idx → EReal) : S2x256x256.Idx → EReal := fun y =>
  if (y 2).val < (y 1).val then G10 b0 b1 s0 s1 y else 0

/-- The masked softplus of head 1 in the diagonal block, read back. -/
theorem pro_sp1 (S0 S1 b0 b1 J)
    (hS0 : kernelRun0_A.sl.r_7 (F := Idealize.ShloMosaic.Ideal) c i arg4 harg4 arg5 harg5 x1 x2 = S0)
    (hS1 : kernelRun0_A.sl.r_8 (F := Idealize.ShloMosaic.Ideal) c i arg4 harg4 arg5 harg5 x1 x2 = S1)
    (hb0 : kernelRun0_A.sl.r_4 (F := Idealize.ShloMosaic.Ideal) c i arg3 harg3 x0 = b0)
    (hb1 : kernelRun0_A.sl.r_5 (F := Idealize.ShloMosaic.Ideal) c i arg3 harg3 x0 = b1) (hJ : kernelRun0_A.sl.v44 i = J) :
  kernelRun0_A.sl.v830 (F := Idealize.ShloMosaic.Ideal) c i arg3 harg3 arg4 harg4 arg5 harg5 arg10 x0 x1 x2 =
   fun j => M10 b0 b1 S0 S1 (ix3 1 (j 1) (j 2)) := by
  have ha := coord2_lt i
  have hJ2 : J = BitVec.ofNat 32 (i 2).val := by
    rw [← hJ]; frame_open; exact jd_eq _ ha
  frame_open at hS0 hS1 hb0 hb1 hJ
  frame_open
  simp only [hS0, hS1, hb0, hb1, hJ]
  rw [hJ2]
  rw [readCov_pieces _ _ _ (M10 b0 b1 S0 S1)]
  · funext j; pointwise
  · repeat' first | exact trivial | refine PiecesOf_cons ?_ ?_
    all_goals
      intro (x : S1x32x256.Idx)
      rw [slab_emb x (by norm_num) (slab_lt x _ (by norm_num))]
      unfold_payloads
      pointwise
      have h1 : (x 1).val < 32 := (x 1).isLt
      have h2 : (x 2).val < 256 := (x 2).isLt
      first
      | rw [mask_select _ _ _ _ ha h2 h1 (by norm_num)]
        rfl
      | rw [mask_select _ _ _ _ ha h2 h1 (by norm_num)]
        simp only [Nat.zero_add]
        rfl
      | rw [← hS0]
        refine (congrArg (fun J => Scalar.select (IntOp.cmpi .slt (IntOp.addi (BitVec.ofNat 32 (x 2).val) (Scalar.muli J 256#32)) _) _ _) (jd_eq _ ha)).trans ?_
        rw [mask_select _ _ _ _ ha h2 h1 (by norm_num)]
        simp only [Nat.zero_add]
        show _ = ite _ (ite _ _ _) _
        unfold_payloads
        pointwise
        rfl
  · intro j
    simp only [List.mem_cons, exists_eq_or_imp, exists_eq_left, List.not_mem_nil, false_and, exists_false, or_false, Rect.mem_set_unit]
    have h0 : (j 0).val < 1 := (j 0).isLt
    have h1 : (j 1).val < 256 := (j 1).isLt
    have h2 : (j 2).val < 256 := (j 2).isLt
    simp [Fin.forall_fin_succ]
    omega
/-- The masked softplus of head 0 in the diagonal block, read back. -/
theorem pro_sp0 (S0 S1 b0 b1 J)
    (hS0 : kernelRun0_A.sl.r_7 (F := Idealize.ShloMosaic.Ideal) c i arg4 harg4 arg5 harg5 x1 x2 = S0)
    (hS1 : kernelRun0_A.sl.r_8 (F := Idealize.ShloMosaic.Ideal) c i arg4 harg4 arg5 harg5 x1 x2 = S1)
    (hb0 : kernelRun0_A.sl.r_4 (F := Idealize.ShloMosaic.Ideal) c i arg3 harg3 x0 = b0)
    (hb1 : kernelRun0_A.sl.r_5 (F := Idealize.ShloMosaic.Ideal) c i arg3 harg3 x0 = b1) (hJ : kernelRun0_A.sl.v44 i = J) :
  kernelRun0_A.sl.v356 (F := Idealize.ShloMosaic.Ideal) c i arg3 harg3 arg4 harg4 arg5 harg5 arg10 x0 x1 x2 =
   fun j => M10 b0 b1 S0 S1 (ix3 0 (j 1) (j 2)) := by
  have ha := coord2_lt i
  have hJ2 : J = BitVec.ofNat 32 (i 2).val := by
    rw [← hJ]; frame_open; exact jd_eq _ ha
  frame_open at hS0 hS1 hb0 hb1 hJ
  frame_open
  simp only [hS0, hS1, hb0, hb1, hJ]
  rw [hJ2]
  rw [readCov_pieces _ _ _ (M10 b0 b1 S0 S1)]
  · funext j; pointwise
  · repeat' first | exact trivial | refine PiecesOf_cons ?_ ?_
    all_goals
      intro (x : S1x32x256.Idx)
      rw [slab_emb x (by norm_num) (slab_lt x _ (by norm_num))]
      unfold_payloads
      pointwise
      have h1 : (x 1).val < 32 := (x 1).isLt
      have h2 : (x 2).val < 256 := (x 2).isLt
      first
      | rw [mask_select _ _ _ _ ha h2 h1 (by norm_num)]
        rfl
      | rw [mask_select _ _ _ _ ha h2 h1 (by norm_num)]
        simp only [Nat.zero_add]
        rfl
      | rw [← hS0]
        refine (congrArg (fun J => Scalar.select (IntOp.cmpi .slt (IntOp.addi (BitVec.ofNat 32 (x 2).val) (Scalar.muli J 256#32)) _) _ _) (jd_eq _ ha)).trans ?_
        rw [mask_select _ _ _ _ ha h2 h1 (by norm_num)]
        simp only [Nat.zero_add]
        show _ = ite _ (ite _ _ _) _
        unfold_payloads
        pointwise
        rfl
  · intro j
    simp only [List.mem_cons, exists_eq_or_imp, exists_eq_left, List.not_mem_nil, false_and, exists_false, or_false, Rect.mem_set_unit]
    have h0 : (j 0).val < 1 := (j 0).isLt
    have h1 : (j 1).val < 256 := (j 1).isLt
    have h2 : (j 2).val < 256 := (j 2).isLt
    simp [Fin.forall_fin_succ]
    omega

/-- What row `r` of one head has summed up at column `k` of the diagonal block. -/
def TM (b : EReal) (s tri : S256x256.Idx → EReal) (r k : Fin 256) : EReal :=
  ∑ d : Fin 256, (if d.val < r.val then sp2E (s (ix2 r d) + b) else 0) * tri (ix2 d k)

/-- The attention weight of one head at row `r`, column `k` of the diagonal block. -/
def AM (b : EReal) (s tri : S256x256.Idx → EReal) (r k : Fin 256) : EReal :=
  if k.val < r.val then Idealize.ShloMosaic.Ideal.exp2 (((s (ix2 r k) + b) - sp2E (s (ix2 r k) + b)) - TM b s tri r k) else 0

/-- The weights of the two heads in the diagonal block. -/
def M12 (b0 b1 : EReal) (s0 s1 tri : S256x256.Idx → EReal) : S2x256x256.Idx → EReal := fun y =>
  if (y 0).val = 0 then AM b0 s0 tri (y 1) (y 2) else AM b1 s1 tri (y 1) (y 2)

/-- What head 0 has summed up at each place of the diagonal block. -/
theorem pro_tot0 (S0 S1 b0 b1 J tri)
    (hS0 : kernelRun0_A.sl.r_7 (F := Idealize.ShloMosaic.Ideal) c i arg4 harg4 arg5 harg5 x1 x2 = S0)
    (hS1 : kernelRun0_A.sl.r_8 (F := Idealize.ShloMosaic.Ideal) c i arg4 harg4 arg5 harg5 x1 x2 = S1)
    (hb0 : kernelRun0_A.sl.r_4 (F := Idealize.ShloMosaic.Ideal) c i arg3 harg3 x0 = b0)
    (hb1 : kernelRun0_A.sl.r_5 (F := Idealize.ShloMosaic.Ideal) c i arg3 harg3 x0 = b1) (hJ : kernelRun0_A.sl.v44 i = J)
    (ht : kernelRun0_A.sl.r_6 (F := Idealize.ShloMosaic.Ideal) c arg8 harg8 x5 = tri) :
    kernelRun0_A.sl.v360 (F := Idealize.ShloMosaic.Ideal) c i arg3 harg3 arg4 harg4 arg5 harg5 arg8 harg8 arg10 x0 x1 x2 x5 =
      fun j => TM b0 S0 tri (j 0) (j 1) := by
  unfold kernelRun0_A.sl.v360 kernelRun0_A.sl.v358 kernelRun0_A.sl.v357
  rw [pro_sp0 (hS0 := hS0) (hS1 := hS1) (hb0 := hb0) (hb1 := hb1) (hJ := hJ), ht]
  funext j
  frame_open
  unfold_payloads
  pointwise
  rfl

/-- What head 1 has summed up at each place of the diagonal block. -/
theorem pro_tot1 (S0 S1 b0 b1 J tri)
    (hS0 : kernelRun0_A.sl.r_7 (F := Idealize.ShloMosaic.Ideal) c i arg4 harg4 arg5 harg5 x1 x2 = S0)
    (hS1 : kernelRun0_A.sl.r_8 (F := Idealize.ShloMosaic.Ideal) c i arg4 harg4 arg5 harg5 x1 x2 = S1)
    (hb0 : kernelRun0_A.sl.r_4 (F := Idealize.ShloMosaic.Ideal) c i arg3 harg3 x0 = b0)
    (hb1 : kernelRun0_A.sl.r_5 (F := Idealize.ShloMosaic.Ideal) c i arg3 harg3 x0 = b1) (hJ : kernelRun0_A.sl.v44 i = J)
    (ht : kernelRun0_A.sl.r_6 (F := Idealize.ShloMosaic.Ideal) c arg8 harg8 x5 = tri) :
    kernelRun0_A.sl.v834 (F := Idealize.ShloMosaic.Ideal) c i arg3 harg3 arg4 harg4 arg5 harg5 arg8 harg8 arg10 x0 x1 x2 x5 =
      fun j => TM b1 S1 tri (j 0) (j 1) := by
  unfold kernelRun0_A.sl.v834 kernelRun0_A.sl.v832 kernelRun0_A.sl.v831
  rw [pro_sp1 (hS0 := hS0) (hS1 := hS1) (hb0 := hb0) (hb1 := hb1) (hJ := hJ), ht]
  funext j
  frame_open
  unfold_payloads
  pointwise
  rfl

/-- The first 128 columns of the masked softplus, of the two heads. -/
def M13 (b0 b1 : EReal) (s0 s1 : S256x256.Idx → EReal) : S2x256x128.Idx → EReal := fun y =>
  M10 b0 b1 s0 s1 (ix3 (y 0) (y 1) ⟨(y 2).val, Nat.lt_trans (y 2).isLt (by decide)⟩)

/-- What a row of one head has summed up after the diagonal block. -/
def CM (b : EReal) (s tri : S256x256.Idx → EReal) (r : Fin 256) : EReal :=
  TM b s tri r 0 + (if 0 < r.val then sp2E (s (ix2 r 0) + b) else 0)

/-- What head 0 has summed up after the diagonal block. -/
theorem pro_c0 (S0 S1 b0 b1 J tri)
    (hS0 : kernelRun0_A.sl.r_7 (F := Idealize.ShloMosaic.Ideal) c i arg4 harg4 arg5 harg5 x1 x2 = S0)
    (hS1 : kernelRun0_A.sl.r_8 (F := Idealize.ShloMosaic.Ideal) c i arg4 harg4 arg5 harg5 x1 x2 = S1)
    (hb0 : kernelRun0_A.sl.r_4 (F := Idealize.ShloMosaic.Ideal) c i arg3 harg3 x0 = b0)
    (hb1 : kernelRun0_A.sl.r_5 (F := Idealize.ShloMosaic.Ideal) c i arg3 harg3 x0 = b1) (hJ : kernelRun0_A.sl.v44 i = J)
    (ht : kernelRun0_A.sl.r_6 (F := Idealize.ShloMosaic.Ideal) c arg8 harg8 x5 = tri) :
    kernelRun0_A.sl.v525 (F := Idealize.ShloMosaic.Ideal) c i arg3 harg3 arg4 harg4 arg5 harg5 arg8 harg8 arg10 arg13 x0 x1 x2 x5 =
      fun j => CM b0 S0 tri (j 0) := by
  have hT0 := pro_tot0 (hS0 := hS0) (hS1 := hS1) (hb0 := hb0) (hb1 := hb1) (hJ := hJ) (ht := ht) (arg10 := arg10)
  unfold kernelRun0_A.sl.v525 kernelRun0_A.sl.v521
  rw [hT0]
  have ha := coord2_lt i
  have hJ2 : J = BitVec.ofNat 32 (i 2).val := by
    rw [← hJ]; frame_open; exact jd_eq _ ha
  frame_open at hS0 hS1 hb0 hb1 hJ
  frame_open
  simp only [hS0, hS1, hb0, hb1, hJ]
  rw [hJ2]
  rw [readCov_pieces _ _ _ (M13 b0 b1 S0 S1)]
  · funext j
    unfold_payloads
    pointwise
    rfl
  · repeat' first | exact trivial | refine PiecesOf_cons ?_ ?_
    all_goals
      intro (x : S1x32x128.Idx)
      rw [lane_emb x (by norm_num) (lane_lt x _ (by norm_num))]
      unfold_payloads
      pointwise
      have h1 : (x 1).val < 32 := (x 1).isLt
      have h2 : (x 2).val < 256 := Nat.lt_trans (x 2).isLt (by decide)
      first
      | rw [mask_select _ _ _ _ ha h2 h1 (by norm_num)]
        rfl
      | rw [mask_select _ _ _ _ ha h2 h1 (by norm_num)]
        simp only [Nat.zero_add]
        rfl
      | rw [← hS0]
        refine (congrArg (fun J => Scalar.select (IntOp.cmpi .slt (IntOp.addi (BitVec.ofNat 32 (x 2).val) (Scalar.muli J 256#32)) _) _ _) (jd_eq _ ha)).trans ?_
        rw [mask_select _ _ _ _ ha h2 h1 (by norm_num)]
        simp only [Nat.zero_add]
        show _ = ite _ (ite _ _ _) _
        unfold_payloads
        pointwise
        rfl
  · intro j
    simp only [List.mem_cons, exists_eq_or_imp, exists_eq_left, List.not_mem_nil, false_and, exists_false, or_false, Rect.mem_set_unit]
    have h0 : (j 0).val < 1 := (j 0).isLt
    have h1 : (j 1).val < 256 := (j 1).isLt
    have h2 : (j 2).val < 128 := (j 2).isLt
    simp [Fin.forall_fin_succ]
    omega

/-- What head 1 has summed up after the diagonal block. -/
theorem pro_c1 (S0 S1 b0 b1 J tri)
    (hS0 : kernelRun0_A.sl.r_7 (F := Idealize.ShloMosaic.Ideal) c i arg4 harg4 arg5 harg5 x1 x2 = S0)
    (hS1 : kernelRun0_A.sl.r_8 (F := Idealize.ShloMosaic.Ideal) c i arg4 harg4 arg5 harg5 x1 x2 = S1)
    (hb0 : kernelRun0_A.sl.r_4 (F := Idealize.ShloMosaic.Ideal) c i arg3 harg3 x0 = b0)
    (hb1 : kernelRun0_A.sl.r_5 (F := Idealize.ShloMosaic.Ideal) c i arg3 harg3 x0 = b1) (hJ : kernelRun0_A.sl.v44 i = J)
    (ht : kernelRun0_A.sl.r_6 (F := Idealize.ShloMosaic.Ideal) c arg8 harg8 x5 = tri) :
    k0_pay389 (kernelRun0_A.sl.v834 (F := Idealize.ShloMosaic.Ideal) c i arg3 harg3 arg4 harg4 arg5 harg5 arg8 harg8 arg10 x0 x1 x2 x5)
        (kernelRun0_A.sl.v996 (F := Idealize.ShloMosaic.Ideal) c i arg3 harg3 arg4 harg4 arg5 harg5 arg13 x0 x1 x2) =
      fun j => CM b1 S1 tri (j 0) := by
  have hT1 := pro_tot1 (hS0 := hS0) (hS1 := hS1) (hb0 := hb0) (hb1 := hb1) (hJ := hJ) (ht := ht) (arg10 := arg10)
  rw [hT1]
  have ha := coord2_lt i
  have hJ2 : J = BitVec.ofNat 32 (i 2).val := by
    rw [← hJ]; frame_open; exact jd_eq _ ha
  frame_open at hS0 hS1 hb0 hb1 hJ
  frame_open
  simp only [hS0, hS1, hb0, hb1, hJ]
  rw [hJ2]
  rw [readCov_pieces _ _ _ (M13 b0 b1 S0 S1)]
  · funext j
    unfold_payloads
    pointwise
    rfl
  · repeat' first | exact trivial | refine PiecesOf_cons ?_ ?_
    all_goals
      intro (x : S1x32x128.Idx)
      rw [lane_emb x (by norm_num) (lane_lt x _ (by norm_num))]
      unfold_payloads
      pointwise
      have h1 : (x 1).val < 32 := (x 1).isLt
      have h2 : (x 2).val < 256 := Nat.lt_trans (x 2).isLt (by decide)
      first
      | rw [mask_select _ _ _ _ ha h2 h1 (by norm_num)]
        rfl
      | rw [mask_select _ _ _ _ ha h2 h1 (by norm_num)]
        simp only [Nat.zero_add]
        rfl
      | rw [← hS0]
        refine (congrArg (fun J => Scalar.select (IntOp.cmpi .slt (IntOp.addi (BitVec.ofNat 32 (x 2).val) (Scalar.muli J 256#32)) _) _ _) (jd_eq _ ha)).trans ?_
        rw [mask_select _ _ _ _ ha h2 h1 (by norm_num)]
        simp only [Nat.zero_add]
        show _ = ite _ (ite _ _ _) _
        unfold_payloads
        pointwise
        rfl
  · intro j
    simp only [List.mem_cons, exists_eq_or_imp, exists_eq_left, List.not_mem_nil, false_and, exists_false, or_false, Rect.mem_set_unit]
    have h0 : (j 0).val < 1 := (j 0).isLt
    have h1 : (j 1).val < 256 := (j 1).isLt
    have h2 : (j 2).val < 128 := (j 2).isLt
    simp [Fin.forall_fin_succ]
    omega

/-- The weight with the softplus under the mask too. -/
theorem AM_eq (b : EReal) (s tri : S256x256.Idx → EReal) (r k : Fin 256) : AM b s tri r k =
    if k.val < r.val then Idealize.ShloMosaic.Ideal.exp2
      (((s (ix2 r k) + b) - (if k.val < r.val then sp2E (s (ix2 r k) + b) else 0)) - TM b s tri r k) else 0 := by
  unfold AM
  by_cases h : k.val < r.val
  · rw [if_pos h, if_pos h, if_pos h]
  · rw [if_neg h, if_neg h]

/-- The weights of head 0. -/
theorem M12_zero (b0 b1 : EReal) (s0 s1 tri : S256x256.Idx → EReal) (h : 0 < 2) (r k : Fin 256) :
    M12 b0 b1 s0 s1 tri (ix3 ⟨0, h⟩ r k) = if k.val < r.val then Idealize.ShloMosaic.Ideal.exp2
      (((s0 (ix2 r k) + b0) - (if k.val < r.val then sp2E (s0 (ix2 r k) + b0) else 0)) - TM b0 s0 tri r k) else 0 := AM_eq _ _ _ _ _

/-- The weights of head 1. -/
theorem M12_one (b0 b1 : EReal) (s0 s1 tri : S256x256.Idx → EReal) (h : 1 < 2) (r k : Fin 256) :
    M12 b0 b1 s0 s1 tri (ix3 ⟨1, h⟩ r k) = if k.val < r.val then Idealize.ShloMosaic.Ideal.exp2
      (((s1 (ix2 r k) + b1) - (if k.val < r.val then sp2E (s1 (ix2 r k) + b1) else 0)) - TM b1 s1 tri r k) else 0 := AM_eq _ _ _ _ _

set_option maxHeartbeats 4000000 in
/-- The weights the diagonal block leaves for the two heads. -/
theorem pro_w (S0 S1 b0 b1 J tri y)
    (hS0 : kernelRun0_A.sl.r_7 (F := Idealize.ShloMosaic.Ideal) c i arg4 harg4 arg5 harg5 x1 x2 = S0)
    (hS1 : kernelRun0_A.sl.r_8 (F := Idealize.ShloMosaic.Ideal) c i arg4 harg4 arg5 harg5 x1 x2 = S1)
    (hb0 : kernelRun0_A.sl.r_4 (F := Idealize.ShloMosaic.Ideal) c i arg3 harg3 x0 = b0)
    (hb1 : kernelRun0_A.sl.r_5 (F := Idealize.ShloMosaic.Ideal) c i arg3 harg3 x0 = b1) (hJ : kernelRun0_A.sl.v44 i = J)
    (ht : kernelRun0_A.sl.r_6 (F := Idealize.ShloMosaic.Ideal) c arg8 harg8 x5 = tri) :
    arg12.view.read _ (arg12.view.writes (Elt Idealize.ShloMosaic.Ideal) arg12.view.junk
      (kernelRun0_A.sl.HS2_16 (F := Idealize.ShloMosaic.Ideal) c i arg3 harg3 arg4 harg4 arg5 harg5 arg8 harg8 arg10 arg11 x0 x1 x2 x5)) y
      = M12 b0 b1 S0 S1 tri y := by
  have hT0 := pro_tot0 (hS0 := hS0) (hS1 := hS1) (hb0 := hb0) (hb1 := hb1) (hJ := hJ) (ht := ht) (arg10 := arg10)
  have hT1 := pro_tot1 (hS0 := hS0) (hS1 := hS1) (hb0 := hb0) (hb1 := hb1) (hJ := hJ) (ht := ht) (arg10 := arg10)
  have ha := coord2_lt i
  have hJ2 : J = BitVec.ofNat 32 (i 2).val := by
    rw [← hJ]; frame_open; exact jd_eq _ ha
  frame_open at hT0
  frame_open at hT1
  frame_open at hS0 hS1 hb0 hb1 hJ
  refine View.read_writes_apply_of_pieces _ _ _ _ (View.PiecesOf.mem ?_) y ?_
  · unfold kernelRun0_A.sl.HS2_16
    repeat' first | exact trivial | refine PiecesOf_cons ?_ ?_
    all_goals
      intro (x : S1x32x256.Idx)
      rw [slab_emb x (by norm_num) (slab_lt x _ (by norm_num))]
      first | refine Eq.trans ?_ (M12_zero _ _ _ _ _ _ _ _).symm | refine Eq.trans ?_ (M12_one _ _ _ _ _ _ _ _).symm
      frame_open
      first | rw [hT0] | rw [hT1]
      simp (config := {decide := true}) only [↓View.readCov_skip]
      rw [readCov_same]
      simp only [hS0, hS1, hb0, hb1, hJ]
      rw [hJ2]
      unfold_payloads
      pointwise
      have h1 : (x 1).val < 32 := (x 1).isLt
      have h2 : (x 2).val < 256 := (x 2).isLt
      first
      | rw [mask_select _ _ _ _ ha h2 h1 (by norm_num), mask_select _ _ _ _ ha h2 h1 (by norm_num)]
        rfl
      | rw [mask_select _ _ _ _ ha h2 h1 (by norm_num), mask_select _ _ _ _ ha h2 h1 (by norm_num)]
        simp only [Nat.zero_add]
        rfl
      | rw [← hS0]
        refine (congrArg (fun J => Scalar.select (IntOp.cmpi .slt (IntOp.addi (BitVec.ofNat 32 (x 2).val) (Scalar.muli (BitVec.ofNat 32 (i 2).val) 256#32)) _)
          (Idealize.ShloMosaic.Ideal.exp2 ((_ - Scalar.select (IntOp.cmpi .slt (IntOp.addi (BitVec.ofNat 32 (x 2).val) (Scalar.muli J 256#32)) _) _ _) - _)) _) (jd_eq _ ha)).trans ?_
        rw [mask_select _ _ _ _ ha h2 h1 (by norm_num), mask_select _ _ _ _ ha h2 h1 (by norm_num)]
        simp only [Nat.zero_add]
        unfold_payloads
        pointwise
        rfl
  · unfold kernelRun0_A.sl.HS2_16
    simp only [List.mem_cons, exists_eq_or_imp, exists_eq_left, List.not_mem_nil, false_and, exists_false, or_false, Rect.mem_set_unit]
    have h0 : (y 0).val < 2 := (y 0).isLt
    have h1 : (y 1).val < 256 := (y 1).isLt
    have h2 : (y 2).val < 256 := (y 2).isLt
    simp [Fin.forall_fin_succ]
    omega

end Cert.KernelIdeal.Attn

end
-- ==== Proof.Attn.Head.lean ====
module

public import proofs.«01_k».proof.Proof.Attn.Pro

@[expose] public section

noncomputable section

namespace Cert.KernelIdeal.Attn

open Idealize.ShloMosaic Cert.Attn Finset

/-- What a row has summed up within a block before the diagonal one, with what the later blocks left. -/
theorem TOT_eq (b : EReal) (s tri : S256x256.Idx → EReal) (c : S256x1.Idx → EReal) (r k : Fin 256) (g : ℕ → EReal) (t B : ℕ)
    (hs : ∀ x : Fin 256, s (ix2 r x) + b = g (256 * B + x.val))
    (hc : c (ix2 r 0) = ∑ j ∈ Ico (256 * (B + 1)) 8192, FK g t j)
    (htri : ∀ d k : Fin 256, tri (ix2 d k) = if k < d then 1 else 0) (ht : 256 * (B + 1) ≤ t) (hB : B < 32) :
    TOT b s tri c r k = ∑ j ∈ Ico (256 * B + k.val + 1) 8192, FK g t j := by
  rw [← later_block 8192 (FK g t) B k (by omega), ← hc]
  unfold TOT
  refine congrArg (· + _) (sum_congr rfl fun d _ => ?_)
  rw [hs, htri, FK]
  refine congrArg (· * _) ?_
  rw [if_pos (by have := d.isLt; omega)]

/-- The weights within a block before the diagonal one. -/
theorem AA_eq (b : EReal) (s tri : S256x256.Idx → EReal) (c : S256x1.Idx → EReal) (r k : Fin 256) (g : ℕ → EReal) (t B : ℕ)
    (hs : ∀ x : Fin 256, s (ix2 r x) + b = g (256 * B + x.val))
    (hc : c (ix2 r 0) = ∑ j ∈ Ico (256 * (B + 1)) 8192, FK g t j)
    (htri : ∀ d k : Fin 256, tri (ix2 d k) = if k < d then 1 else 0) (ht : 256 * (B + 1) ≤ t) (hB : B < 32) :
    AA b s tri c r k = AK 8192 g t (256 * B + k.val) := by
  unfold AA AK
  rw [TOT_eq b s tri c r k g t B hs hc htri ht hB, hs, if_pos (by have := k.isLt; omega)]

/-- What a row has summed up after a block before the diagonal one. -/
theorem C_eq (b : EReal) (s tri : S256x256.Idx → EReal) (c : S256x1.Idx → EReal) (r : Fin 256) (g : ℕ → EReal) (t B : ℕ)
    (hs : ∀ x : Fin 256, s (ix2 r x) + b = g (256 * B + x.val))
    (hc : c (ix2 r 0) = ∑ j ∈ Ico (256 * (B + 1)) 8192, FK g t j)
    (htri : ∀ d k : Fin 256, tri (ix2 d k) = if k < d then 1 else 0) (ht : 256 * (B + 1) ≤ t) (hB : B < 32) :
    TOT b s tri c r 0 + sp2E (s (ix2 r 0) + b) = ∑ j ∈ Ico (256 * B) 8192, FK g t j := by
  rw [TOT_eq b s tri c r 0 g t B hs hc htri ht hB, hs, ← next_block 8192 (FK g t) B (by omega)]
  refine congrArg₂ _ rfl ?_
  show sp2E (g (256 * B + 0)) = _
  rw [Nat.add_zero, FK, if_pos (by omega)]

/-- What a row has summed up within the diagonal block. -/
theorem TM_eq (b : EReal) (s tri : S256x256.Idx → EReal) (r k : Fin 256) (g : ℕ → EReal) (B : ℕ)
    (hs : ∀ x : Fin 256, s (ix2 r x) + b = g (256 * B + x.val))
    (htri : ∀ d k : Fin 256, tri (ix2 d k) = if k < d then 1 else 0) (hB : B < 32) :
    TM b s tri r k = ∑ j ∈ Ico (256 * B + k.val + 1) 8192, FK g (256 * B + r.val) j := by
  rw [← later_block 8192 (FK g (256 * B + r.val)) B k (by omega), FK_sum_zero _ _ _ _ (by have := r.isLt; omega), add_zero]
  unfold TM
  refine sum_congr rfl fun d _ => ?_
  rw [htri, FK, hs]
  refine congrArg (· * _) ?_
  by_cases h : d.val < r.val
  · rw [if_pos h, if_pos (by omega)]
  · rw [if_neg h, if_neg (by omega)]

/-- The weights within the diagonal block. -/
theorem AM_eq_AK (b : EReal) (s tri : S256x256.Idx → EReal) (r k : Fin 256) (g : ℕ → EReal) (B : ℕ)
    (hs : ∀ x : Fin 256, s (ix2 r x) + b = g (256 * B + x.val))
    (htri : ∀ d k : Fin 256, tri (ix2 d k) = if k < d then 1 else 0) (hB : B < 32) :
    AM b s tri r k = AK 8192 g (256 * B + r.val) (256 * B + k.val) := by
  unfold AM AK
  rw [TM_eq b s tri r k g B hs htri hB, hs]
  by_cases h : k.val < r.val
  · rw [if_pos h, if_pos (by omega)]
  · rw [if_neg h, if_neg (by omega)]

/-- What a row has summed up after the diagonal block. -/
theorem CM_eq (b : EReal) (s tri : S256x256.Idx → EReal) (r : Fin 256) (g : ℕ → EReal) (B : ℕ)
    (hs : ∀ x : Fin 256, s (ix2 r x) + b = g (256 * B + x.val))
    (htri : ∀ d k : Fin 256, tri (ix2 d k) = if k < d then 1 else 0) (hB : B < 32) :
    CM b s tri r = ∑ j ∈ Ico (256 * B) 8192, FK g (256 * B + r.val) j := by
  unfold CM
  rw [TM_eq b s tri r 0 g B hs htri hB, hs, ← next_block 8192 (FK g (256 * B + r.val)) B (by omega)]
  refine congrArg₂ _ rfl ?_
  show (if 0 < r.val then sp2E (g (256 * B + 0)) else 0) = _
  rw [Nat.add_zero, FK]
  by_cases h : 0 < r.val
  · rw [if_pos h, if_pos (by omega)]
  · rw [if_neg h, if_neg (by omega)]

/-- What one head's part of the loop's state holds before trip `n`, in query block `a`: the scores of the next block of keys,
    what the rows have summed up, the weights of the block last done, and the weighted values of the blocks before that. -/
structure Head (g : Fin 256 → ℕ → EReal) (vm : Fin 128 → ℕ → EReal) (b : EReal) (a n : ℕ) (s : S256x256.Idx → EReal)
    (c : S256x1.Idx → EReal) (w : Fin 256 → Fin 256 → EReal) (acc : S256x128.Idx → EReal) : Prop where
  hs : ∀ r x : Fin 256, s (ix2 r x) + b = g r (256 * (a - 1 - n) + x.val)
  hc : ∀ r : Fin 256, c (ix2 r 0) = ∑ j ∈ Ico (256 * (a - n)) 8192, FK (g r) (256 * a + r.val) j
  hw : ∀ r x : Fin 256, w r x = AK 8192 (g r) (256 * a + r.val) (256 * (a - n) + x.val)
  hacc : ∀ (r : Fin 256) (l : Fin 128), acc (ix2 r l)
    = ∑ j ∈ Ico (256 * (a - n + 1)) 8192, AK 8192 (g r) (256 * a + r.val) j * vm l j

/-- The block last done, added to the weighted values. -/
theorem Head.add {g vm b a n s c w acc} (h : Head g vm b a n s c w acc) (ha : a < 32) (r : Fin 256) (l : Fin 128) :
    acc (ix2 r l) + ∑ x : Fin 256, w r x * vm l (256 * (a - n) + x.val)
      = ∑ j ∈ Ico (256 * (a - n)) 8192, AK 8192 (g r) (256 * a + r.val) j * vm l j := by
  rw [← acc_block 8192 (fun j => AK 8192 (g r) (256 * a + r.val) j * vm l j) (a - n) (by omega), h.hacc]
  refine congrArg _ (sum_congr rfl fun x _ => ?_)
  rw [h.hw]

/-- One trip keeps it. -/
theorem Head.step {g vm b a n s c w acc} (h : Head g vm b a n s c w acc) (hn : n < a) (ha : a < 32)
    (tri : S256x256.Idx → EReal) (htri : ∀ d k : Fin 256, tri (ix2 d k) = if k < d then 1 else 0)
    {s' : S256x256.Idx → EReal} {c' : S256x1.Idx → EReal} {w' : Fin 256 → Fin 256 → EReal} {acc' : S256x128.Idx → EReal}
    (hs' : ∀ r x : Fin 256, s' (ix2 r x) + b = g r (256 * (a - 2 - n) + x.val))
    (hc' : ∀ r : Fin 256, c' (ix2 r 0) = TOT b s tri c r 0 + sp2E (s (ix2 r 0) + b))
    (hw' : ∀ r x : Fin 256, w' r x = AA b s tri c r x)
    (hacc' : ∀ (r : Fin 256) (l : Fin 128), acc' (ix2 r l) = acc (ix2 r l) + ∑ x : Fin 256, w r x * vm l (256 * (a - n) + x.val)) :
    Head g vm b a (n + 1) s' c' w' acc' := by
  have e1 : a - n = a - 1 - n + 1 := by omega
  have e2 : a - (n + 1) = a - 1 - n := by omega
  have hc := h.hc
  rw [e1] at hc
  refine ⟨fun r x => ?_, fun r => ?_, fun r x => ?_, fun r l => ?_⟩
  · rw [hs', show a - 1 - (n + 1) = a - 2 - n by omega]
  · rw [hc', e2]
    exact C_eq b s tri c r (g r) _ _ (h.hs r) (hc r) htri (by omega) (by omega)
  · rw [hw', e2]
    exact AA_eq b s tri c r x (g r) _ _ (h.hs r) (hc r) htri (by omega) (by omega)
  · rw [hacc', h.add ha, e2, ← e1]

/-- The diagonal block sets it up. -/
theorem Head.start {g : Fin 256 → ℕ → EReal} {vm : Fin 128 → ℕ → EReal} {b : EReal} {a : ℕ} (ha : a < 32)
    (S tri : S256x256.Idx → EReal) (htri : ∀ d k : Fin 256, tri (ix2 d k) = if k < d then 1 else 0)
    (hS : ∀ r x : Fin 256, S (ix2 r x) + b = g r (256 * a + x.val))
    {s : S256x256.Idx → EReal} {c : S256x1.Idx → EReal} {w : Fin 256 → Fin 256 → EReal} {acc : S256x128.Idx → EReal}
    (hs : ∀ r x : Fin 256, s (ix2 r x) + b = g r (256 * (a - 1) + x.val))
    (hc : ∀ r : Fin 256, c (ix2 r 0) = CM b S tri r)
    (hw : ∀ r x : Fin 256, w r x = AM b S tri r x)
    (hacc : ∀ (r : Fin 256) (l : Fin 128), acc (ix2 r l) = 0) :
    Head g vm b a 0 s c w acc := by
  refine ⟨fun r x => ?_, fun r => ?_, fun r x => ?_, fun r l => ?_⟩
  · rw [hs, Nat.sub_zero]
  · rw [hc, Nat.sub_zero, CM_eq b S tri r (g r) a (hS r) htri ha]
  · rw [hw, Nat.sub_zero, AM_eq_AK b S tri r x (g r) a (hS r) htri ha]
  · rw [hacc, Nat.sub_zero, AKv_sum_zero _ _ _ _ _ (by have := r.isLt; omega)]

end Cert.KernelIdeal.Attn

end
-- ==== Proof.Attn.Loop.lean ====
module

public import proofs.«01_k».proof.Proof.Gen.KernelIdeal.Loops
public import Idealize.ShloMosaic.Lib.Pipeline.ValueKit
public import Idealize.ShloMosaic.Lib.Pipeline.ReadBack
public import Idealize.ShloMosaic.Lib.Pointwise
public import proofs.«01_k».proof.Proof.Attn.Trip2
public import proofs.«01_k».proof.Proof.Attn.Head
public import proofs.«01_k».proof.Proof.Attn.Words

@[expose] public section

set_option maxRecDepth 16384

noncomputable section

namespace Cert.KernelIdeal.Attn

open Idealize.ShloMosaic Idealize.ShloMosaic.TcCoe Idealize.ShloMosaic.Tactic
open Cert.KernelIdeal.Gen

open Cert.Attn

/-- A row of an array of 8192 rows, by a natural number. -/
def natRow (A : Fin 8192 → Fin 128 → EReal) (j : ℕ) (d : Fin 128) : EReal := if h : j < 8192 then A ⟨j, h⟩ d else 0

theorem natRow_blk (A : Fin 8192 → Fin 128 → EReal) (b : ℕ) (hb : b < 32) (x : Fin 256) (d : Fin 128) :
    natRow A (256 * b + x.val) d = A (blk b hb x) d := dif_pos _

/-- The biased scores of a query row against key `j`. -/
def GS (q : S256x128.Idx → EReal) (K : Fin 8192 → Fin 128 → EReal) (b : EReal) (r : Fin 256) (j : ℕ) : EReal :=
  ∑ d : Fin 128, q (ix2 r d) * natRow K j d + b

/-- The values, in the lanes of head 0. -/
def VM0 (V : Fin 8192 → Fin 128 → EReal) (l : Fin 128) (j : ℕ) : EReal := if l.val < 64 then natRow V j l else 0

/-- The values, in the lanes of head 1. -/
def VM1 (V : Fin 8192 → Fin 128 → EReal) (l : Fin 128) (j : ℕ) : EReal := if 64 ≤ l.val then natRow V j l else 0

variable  (𝒱 : Variants) (c : Dev nD) (bd : Option 𝒱.V) (i : grid0.Coords) (arg3 : Memref sig .tc .smem S16 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x256x128 .f32) (harg7 : arg7.IsWhole) (arg8 : Memref sig .tc .vmem S256x256 .bf16) (harg8 : arg8.IsWhole) (arg9 : Memref sig .tc .vmem S1x256x128 .bf16) (harg9 : arg9.IsWhole) (arg10 : Memref sig .tc .vmem S2x256x256 .bf16) (harg10 : arg10.IsWhole) (arg11 : Memref sig .tc .vmem S2x256x256 .f32) (harg11 : arg11.IsWhole) (arg12 : Memref sig .tc .vmem S2x256x256 .bf16) (harg12 : arg12.IsWhole) (arg13 : Memref sig .tc .vmem S2x256x128 .f32) (harg13 : arg13.IsWhole) (v3 : IVec S256x128 32) (v5 : FVec Ideal S256x128 .bf16) (v8 : FVec Ideal S256x128 .bf16) (v11 : FVec Ideal S256x128 .bf16) (v15 : Ideal .f32) (v20 : Ideal .f32) (v22 : FVec Ideal S256x256 .bf16) (v26 : FVec Ideal S256x128 .f32) (v44 : BitVec 32) (v525 : FVec Ideal S256x1 .f32) (v834 : FVec Ideal S256x256 .f32) (v991 : FVec Ideal S32x256 .bf16) (X_arg5 : BufTy.Contents (Elt Ideal) arg5.view.ty) (X_arg6 : BufTy.Contents (Elt Ideal) arg6.view.ty)
variable (H10 : BufTy.Contents (Elt Ideal) arg10.view.ty) (H11 : BufTy.Contents (Elt Ideal) arg11.view.ty) (H12 : BufTy.Contents (Elt Ideal) arg12.view.ty) (H13 : BufTy.Contents (Elt Ideal) arg13.view.ty) (init : FVec Ideal S256x256 .f32 × FVec Ideal S256x256 .f32 × FVec Ideal S256x1 .f32 × FVec Ideal S256x1 .f32 × FVec Ideal S256x128 .f32 × FVec Ideal S256x128 .f32)

/-- The two heads' parts of the loop's state, before every trip. -/
theorem loop_inv (K V : Fin 8192 → Fin 128 → EReal)
    (hK : ∀ j d, arg5.view.read (Elt Ideal) X_arg5 (ix3 0 j d) = K j d)
    (hV : ∀ j d, arg6.view.read (Elt Ideal) X_arg6 (ix3 0 j d) = V j d)
    (hv3 : ∀ y : S256x128.Idx, v3 y = BitVec.ofNat 32 (y 1).val) (hv5 : ∀ y, v5 y = 0)
    (htri : ∀ d k : Fin 256, v22 (ix2 d k) = if k < d then 1 else 0)
    (h0 : Head (GS v8 K v15) (VM0 V) v15 (i 2).val 0 init.1 init.2.2.1 (fun r x => arg12.view.read (Elt Ideal) H12 (ix3 0 r x)) init.2.2.2.2.1)
    (h1 : Head (GS v11 K v20) (VM1 V) v20 (i 2).val 0 init.2.1 init.2.2.2.1 (fun r x => arg12.view.read (Elt Ideal) H12 (ix3 1 r x)) init.2.2.2.2.2)
    (n : ℕ) (hn : n ≤ (i 2).val) :
    Head (GS v8 K v15) (VM0 V) v15 (i 2).val n (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n).1.1 (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n).1.2.2.1
      (fun r x => arg12.view.read (Elt Ideal) (arg12.view.writes (Elt Ideal) H12 (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n).2.2.2.1) (ix3 0 r x)) (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n).1.2.2.2.2.1 ∧
    Head (GS v11 K v20) (VM1 V) v20 (i 2).val n (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n).1.2.1 (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n).1.2.2.2.1
      (fun r x => arg12.view.read (Elt Ideal) (arg12.view.writes (Elt Ideal) H12 (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n).2.2.2.1) (ix3 1 r x)) (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n).1.2.2.2.2.2 := by
  have ha := coord2_lt i
  induction n with
  | zero => exact ⟨h0, h1⟩
  | succ n ih =>
    obtain ⟨i0, i1⟩ := ih (by omega)
    have hk : n < (k0_t1_loop i).trips := by rw [trips_eq]; omega
    rw [st_k0_t1_succ (k := ⟨n, hk⟩)]
    dsimp only
    generalize (st_k0_t1 (F := Idealize.ShloMosaic.Ideal) 𝒱 c bd i arg3 harg3 arg4 harg4 arg5 harg5 arg6 harg6 arg7 harg7 arg8 harg8 arg9 harg9 arg10 harg10 arg11 harg11 arg12 harg12 arg13 harg13 v3 v5 v8 v11 v15 v20 v22 v26 v44 v525 v834 v991 X_arg5 X_arg6 H10 H11 H12 H13 init n) = P at i0 i1 ⊢
    rw [View.writes_append]
    refine ⟨i0.step (by omega) ha v22 htri (fun r x => ?_) (fun r => ?_) (fun r x => ?_) (fun r l => ?_),
      i1.step (by omega) ha v22 htri (fun r x => ?_) (fun r => ?_) (fun r x => ?_) (fun r l => ?_)⟩
    · rw [tripR_k0_t1, trip_s0, GS]
      refine congrArg (· + _) (Finset.sum_congr rfl fun d _ => ?_)
      rw [natRow_blk _ _ (by omega), ← hK]
      rfl
    · rw [tripR_k0_t1]
      unfold trip_k0_t1
      dsimp only
      exact congrFun (trip_c0 arg10 arg13 v15 v22 P.1) (ix2 r 0)
    · exact trip_w (y := ix3 0 r x) ..
    · rw [tripR_k0_t1, trip_a0 (hv3 := hv3) (hv5 := hv5)]
      refine congrArg _ (Finset.sum_congr rfl fun x _ => ?_)
      refine congrArg _ ?_
      rw [VM0, natRow_blk _ _ (by omega), ← hV]
      rfl
    · rw [tripR_k0_t1, trip_s1, GS]
      refine congrArg (· + _) (Finset.sum_congr rfl fun d _ => ?_)
      rw [natRow_blk _ _ (by omega), ← hK]
      rfl
    · rw [tripR_k0_t1]
      unfold trip_k0_t1
      dsimp only
      exact congrFun (trip_c1 arg10 arg13 v15 v20 v22 P.1) (ix2 r 0)
    · exact trip_w (y := ix3 1 r x) ..
    · rw [tripR_k0_t1, trip_a1 (hv3 := hv3) (hv5 := hv5)]
      refine congrArg _ (Finset.sum_congr rfl fun x _ => ?_)
      refine congrArg _ ?_
      rw [VM1, natRow_blk _ _ (by omega), ← hV]
      rfl

end Cert.KernelIdeal.Attn

end
-- ==== Proof.Attn.Blk.lean ====
module

public import proofs.«01_k».proof.Proof.Gen.KernelIdeal.Frame
public import proofs.«01_k».proof.Proof.Attn.Loop
public import proofs.«01_k».proof.Proof.Attn.Pro
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Cert.KernelIdeal.Gen Cert.Attn

variable (c : Dev nD) (i : grid0.Coords) (arg3 : Memref sig .tc .smem S16 .f32) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x256x128 .f32) (harg7 : arg7.IsWhole) (arg8 : Memref sig .tc .vmem S256x256 .bf16) (harg8 : arg8.IsWhole) (arg9 : Memref sig .tc .vmem S1x256x128 .bf16) (harg9 : arg9.IsWhole) (arg10 : Memref sig .tc .vmem S2x256x256 .bf16) (harg10 : arg10.IsWhole) (arg11 : Memref sig .tc .vmem S2x256x256 .f32) (harg11 : arg11.IsWhole) (arg12 : Memref sig .tc .vmem S2x256x256 .bf16) (harg12 : arg12.IsWhole) (arg13 : Memref sig .tc .vmem S2x256x128 .f32) (harg13 : arg13.IsWhole)
    (x0 : Vec Idealize.ShloMosaic.Ideal S16 .f32) (x1 : Vec Idealize.ShloMosaic.Ideal S1x256x128 .bf16) (x2 : Vec Idealize.ShloMosaic.Ideal S1x8192x128 .bf16) (x3 : Vec Idealize.ShloMosaic.Ideal S1x8192x128 .bf16) (x4 : Vec Idealize.ShloMosaic.Ideal S1x256x128 .f32) (x5 : Vec Idealize.ShloMosaic.Ideal S256x256 .bf16)

/-- The state the first loop leaves. -/
abbrev fin1 := st_k0_t1 (F := Idealize.ShloMosaic.Ideal) Variants.none c none i arg3 harg3 arg4 harg4 arg5 harg5 arg6 harg6 arg7 harg7 arg8 harg8 arg9 harg9 arg10 harg10 arg11 harg11 arg12 harg12 arg13 harg13 kernelRun0_A.sl.v3 k0_pay246 (kernelRun0_A.sl.r_2 (F := Idealize.ShloMosaic.Ideal) c arg4 harg4 x1) (kernelRun0_A.sl.r_3 (F := Idealize.ShloMosaic.Ideal) c arg4 harg4 x1) (kernelRun0_A.sl.r_4 (F := Idealize.ShloMosaic.Ideal) c i arg3 harg3 x0) (kernelRun0_A.sl.r_5 (F := Idealize.ShloMosaic.Ideal) c i arg3 harg3 x0) (kernelRun0_A.sl.r_6 (F := Idealize.ShloMosaic.Ideal) c arg8 harg8 x5) k0_pay253 (kernelRun0_A.sl.v44 i) (kernelRun0_A.sl.v525 (F := Idealize.ShloMosaic.Ideal) c i arg3 harg3 arg4 harg4 arg5 harg5 arg8 harg8 arg10 arg13 x0 x1 x2 x5) (kernelRun0_A.sl.v834 (F := Idealize.ShloMosaic.Ideal) c i arg3 harg3 arg4 harg4 arg5 harg5 arg8 harg8 arg10 x0 x1 x2 x5) (kernelRun0_A.sl.v991 (F := Idealize.ShloMosaic.Ideal) c i arg3 harg3 arg4 harg4 arg5 harg5 arg8 harg8 arg10 arg11 x0 x1 x2 x5) (harg5.unread x2) (harg6.unread x3) (arg10.view.writes (Elt Idealize.ShloMosaic.Ideal) arg10.view.junk (kernelRun0_A.sl.HS0_16 (F := Idealize.ShloMosaic.Ideal) c i arg3 harg3 arg4 harg4 arg5 harg5 x0 x1 x2)) (arg11.view.writes (Elt Idealize.ShloMosaic.Ideal) arg11.view.junk (kernelRun0_A.sl.HS1_16 (F := Idealize.ShloMosaic.Ideal) c i arg3 harg3 arg4 harg4 arg5 harg5 x0 x1 x2)) (arg12.view.writes (Elt Idealize.ShloMosaic.Ideal) arg12.view.junk (kernelRun0_A.sl.HS2_16 (F := Idealize.ShloMosaic.Ideal) c i arg3 harg3 arg4 harg4 arg5 harg5 arg8 harg8 arg10 arg11 x0 x1 x2 x5)) (arg13.view.writes (Elt Idealize.ShloMosaic.Ideal) arg13.view.junk (kernelRun0_A.sl.HS3_16 (F := Idealize.ShloMosaic.Ideal) c i arg3 harg3 arg4 harg4 arg5 harg5 x0 x1 x2)) (k0_pay391 (kernelRun0_A.sl.r_2 (F := Idealize.ShloMosaic.Ideal) c arg4 harg4 x1) (View.readAt (Elt Idealize.ShloMosaic.Ideal) arg5.view (Rect.unit (s := S1x8192x128) (k0_off4 i) S1x256x128.size (k0_off4_inb i)).toLoadRect (harg5.unread x2)), k0_pay392 (kernelRun0_A.sl.r_3 (F := Idealize.ShloMosaic.Ideal) c arg4 harg4 x1) (View.readAt (Elt Idealize.ShloMosaic.Ideal) arg5.view (Rect.unit (s := S1x8192x128) (k0_off4 i) S1x256x128.size (k0_off4_inb i)).toLoadRect (harg5.unread x2)), (kernelRun0_A.sl.v525 (F := Idealize.ShloMosaic.Ideal) c i arg3 harg3 arg4 harg4 arg5 harg5 arg8 harg8 arg10 arg13 x0 x1 x2 x5), k0_pay389 (kernelRun0_A.sl.v834 (F := Idealize.ShloMosaic.Ideal) c i arg3 harg3 arg4 harg4 arg5 harg5 arg8 harg8 arg10 x0 x1 x2 x5) (kernelRun0_A.sl.v996 (F := Idealize.ShloMosaic.Ideal) c i arg3 harg3 arg4 harg4 arg5 harg5 arg13 x0 x1 x2), k0_pay253, k0_pay253) (k0_t1_loop i).trips

/-- The masked queries of head 0. -/
abbrev Q0 := (kernelRun0_A.sl.r_2 (F := Idealize.ShloMosaic.Ideal) c arg4 harg4 x1)
/-- The masked queries of head 1. -/
abbrev Q1 := (kernelRun0_A.sl.r_3 (F := Idealize.ShloMosaic.Ideal) c arg4 harg4 x1)
/-- The bias of head 0. -/
abbrev B0 := (kernelRun0_A.sl.r_4 (F := Idealize.ShloMosaic.Ideal) c i arg3 harg3 x0)
/-- The bias of head 1. -/
abbrev B1 := (kernelRun0_A.sl.r_5 (F := Idealize.ShloMosaic.Ideal) c i arg3 harg3 x0)

/-- The matrix that sums the later columns. -/
theorem tri_eq (htri : ∀ d k : Fin 256, x5 (ix2 d k) = if k < d then 1 else 0) (d k : Fin 256) :
    (kernelRun0_A.sl.r_6 (F := Idealize.ShloMosaic.Ideal) c arg8 harg8 x5) (ix2 d k) = if k < d then 1 else 0 := by
  rw [← htri]
  frame_open
  unfold_payloads
  pointwise
  rw [View.readAt_eq_ld, harg8.read_unread]
  refine View.ld_unit_apply_of _ _ _ _ _ _ ?_
  intro a
  fin_cases a
  · show d.val = 0 + d.val; omega
  · show k.val = 0 + k.val; omega

/-- The scores of the diagonal block, of head 0. -/
theorem diag0 (r x : Fin 256) : (kernelRun0_A.sl.r_7 (F := Idealize.ShloMosaic.Ideal) c i arg4 harg4 arg5 harg5 x1 x2) (ix2 r x) + (B0 c i arg3 harg3 x0)
    = GS (Q0 c arg4 harg4 x1) (fun j d => x2 (ix3 0 j d)) (B0 c i arg3 harg3 x0) r (256 * (i 2).val + x.val) := by
  refine congrArg (· + _) ?_
  unfold kernelRun0_A.sl.r_7
  unfold_payloads
  pointwise
  refine Finset.sum_congr rfl fun d _ => ?_
  rw [natRow_blk _ _ (coord2_lt i)]
  refine congrArg _ ?_
  refine (read_blk _ _ _ _ (coord2_lt i) (off3_eq i) _ _ _).trans ?_
  rw [harg5.read_unread]

/-- The scores of the diagonal block, of head 1. -/
theorem diag1 (r x : Fin 256) : (kernelRun0_A.sl.r_8 (F := Idealize.ShloMosaic.Ideal) c i arg4 harg4 arg5 harg5 x1 x2) (ix2 r x) + (B1 c i arg3 harg3 x0)
    = GS (Q1 c arg4 harg4 x1) (fun j d => x2 (ix3 0 j d)) (B1 c i arg3 harg3 x0) r (256 * (i 2).val + x.val) := by
  refine congrArg (· + _) ?_
  unfold kernelRun0_A.sl.r_8
  unfold_payloads
  pointwise
  refine Finset.sum_congr rfl fun d _ => ?_
  rw [natRow_blk _ _ (coord2_lt i)]
  refine congrArg _ ?_
  refine (read_blk _ _ _ _ (coord2_lt i) (off3_eq i) _ _ _).trans ?_
  rw [harg5.read_unread]

/-- The scores of the block before the diagonal one. -/
theorem next0 (r x : Fin 256) : k0_pay391 (kernelRun0_A.sl.r_2 (F := Idealize.ShloMosaic.Ideal) c arg4 harg4 x1) (View.readAt (Elt Idealize.ShloMosaic.Ideal) arg5.view (Rect.unit (s := S1x8192x128) (k0_off4 i) S1x256x128.size (k0_off4_inb i)).toLoadRect (harg5.unread x2)) (ix2 r x) + (B0 c i arg3 harg3 x0)
    = GS (Q0 c arg4 harg4 x1) (fun j d => x2 (ix3 0 j d)) (B0 c i arg3 harg3 x0) r (256 * ((i 2).val - 1) + x.val) := by
  refine congrArg (· + _) ?_
  unfold_payloads
  pointwise
  refine Finset.sum_congr rfl fun d _ => ?_
  rw [natRow_blk _ _ (kb_lt i 1)]
  refine congrArg _ ?_
  refine (read_blk _ _ _ _ (kb_lt i 1) (off4_eq i) _ _ _).trans ?_
  rw [harg5.read_unread]

/-- The scores of the block before the diagonal one, of head 1. -/
theorem next1 (r x : Fin 256) : k0_pay392 (kernelRun0_A.sl.r_3 (F := Idealize.ShloMosaic.Ideal) c arg4 harg4 x1) (View.readAt (Elt Idealize.ShloMosaic.Ideal) arg5.view (Rect.unit (s := S1x8192x128) (k0_off4 i) S1x256x128.size (k0_off4_inb i)).toLoadRect (harg5.unread x2)) (ix2 r x) + (B1 c i arg3 harg3 x0)
    = GS (Q1 c arg4 harg4 x1) (fun j d => x2 (ix3 0 j d)) (B1 c i arg3 harg3 x0) r (256 * ((i 2).val - 1) + x.val) := by
  refine congrArg (· + _) ?_
  unfold_payloads
  pointwise
  refine Finset.sum_congr rfl fun d _ => ?_
  rw [natRow_blk _ _ (kb_lt i 1)]
  refine congrArg _ ?_
  refine (read_blk _ _ _ _ (kb_lt i 1) (off4_eq i) _ _ _).trans ?_
  rw [harg5.read_unread]

/-- The lane numbers. -/
theorem lanes (y : S256x128.Idx) : kernelRun0_A.sl.v3 y = BitVec.ofNat 32 (y 1).val := by
  frame_open
  pointwise

/-- The two heads' parts of the state the first loop leaves. -/
theorem fin1_inv (htri : ∀ d k : Fin 256, x5 (ix2 d k) = if k < d then 1 else 0) :
    Head (GS (Q0 c arg4 harg4 x1) (fun j d => x2 (ix3 0 j d)) (B0 c i arg3 harg3 x0)) (VM0 (fun j d => x3 (ix3 0 j d))) (B0 c i arg3 harg3 x0) (i 2).val (i 2).val (fin1 c i arg3 harg3 arg4 harg4 arg5 harg5 arg6 harg6 arg7 harg7 arg8 harg8 arg9 harg9 arg10 harg10 arg11 harg11 arg12 harg12 arg13 harg13 x0 x1 x2 x3 x5).1.1 (fin1 c i arg3 harg3 arg4 harg4 arg5 harg5 arg6 harg6 arg7 harg7 arg8 harg8 arg9 harg9 arg10 harg10 arg11 harg11 arg12 harg12 arg13 harg13 x0 x1 x2 x3 x5).1.2.2.1
      (fun r x => arg12.view.read (Elt Idealize.ShloMosaic.Ideal) (arg12.view.writes (Elt Idealize.ShloMosaic.Ideal) (arg12.view.writes (Elt Idealize.ShloMosaic.Ideal) arg12.view.junk (kernelRun0_A.sl.HS2_16 (F := Idealize.ShloMosaic.Ideal) c i arg3 harg3 arg4 harg4 arg5 harg5 arg8 harg8 arg10 arg11 x0 x1 x2 x5)) (fin1 c i arg3 harg3 arg4 harg4 arg5 harg5 arg6 harg6 arg7 harg7 arg8 harg8 arg9 harg9 arg10 harg10 arg11 harg11 arg12 harg12 arg13 harg13 x0 x1 x2 x3 x5).2.2.2.1) (ix3 0 r x)) (fin1 c i arg3 harg3 arg4 harg4 arg5 harg5 arg6 harg6 arg7 harg7 arg8 harg8 arg9 harg9 arg10 harg10 arg11 harg11 arg12 harg12 arg13 harg13 x0 x1 x2 x3 x5).1.2.2.2.2.1 ∧
    Head (GS (Q1 c arg4 harg4 x1) (fun j d => x2 (ix3 0 j d)) (B1 c i arg3 harg3 x0)) (VM1 (fun j d => x3 (ix3 0 j d))) (B1 c i arg3 harg3 x0) (i 2).val (i 2).val (fin1 c i arg3 harg3 arg4 harg4 arg5 harg5 arg6 harg6 arg7 harg7 arg8 harg8 arg9 harg9 arg10 harg10 arg11 harg11 arg12 harg12 arg13 harg13 x0 x1 x2 x3 x5).1.2.1 (fin1 c i arg3 harg3 arg4 harg4 arg5 harg5 arg6 harg6 arg7 harg7 arg8 harg8 arg9 harg9 arg10 harg10 arg11 harg11 arg12 harg12 arg13 harg13 x0 x1 x2 x3 x5).1.2.2.2.1
      (fun r x => arg12.view.read (Elt Idealize.ShloMosaic.Ideal) (arg12.view.writes (Elt Idealize.ShloMosaic.Ideal) (arg12.view.writes (Elt Idealize.ShloMosaic.Ideal) arg12.view.junk (kernelRun0_A.sl.HS2_16 (F := Idealize.ShloMosaic.Ideal) c i arg3 harg3 arg4 harg4 arg5 harg5 arg8 harg8 arg10 arg11 x0 x1 x2 x5)) (fin1 c i arg3 harg3 arg4 harg4 arg5 harg5 arg6 harg6 arg7 harg7 arg8 harg8 arg9 harg9 arg10 harg10 arg11 harg11 arg12 harg12 arg13 harg13 x0 x1 x2 x3 x5).2.2.2.1) (ix3 1 r x)) (fin1 c i arg3 harg3 arg4 harg4 arg5 harg5 arg6 harg6 arg7 harg7 arg8 harg8 arg9 harg9 arg10 harg10 arg11 harg11 arg12 harg12 arg13 harg13 x0 x1 x2 x3 x5).1.2.2.2.2.2 := by
  have ha := coord2_lt i
  have ht := tri_eq c arg8 harg8 x5 htri
  have e : (k0_t1_loop i).trips = (i 2).val := trips_eq i
  unfold fin1
  rw [e]
  refine loop_inv (K := (fun j d => x2 (ix3 0 j d))) (V := (fun j d => x3 (ix3 0 j d))) (hK := fun j d => ?_) (hV := fun j d => ?_) (hv3 := lanes) (hv5 := fun y => ?_) (htri := ht)
    (h0 := ?_) (h1 := ?_) (n := (i 2).val) (hn := le_rfl) ..
  · rw [harg5.read_unread]
  · rw [harg6.read_unread]
  · show k0_pay246 (F := Idealize.ShloMosaic.Ideal) y = 0
    unfold_payloads
    pointwise
  · refine Head.start ha _ _ ht (diag0 c i arg3 harg3 arg4 harg4 arg5 harg5 x0 x1 x2) (next0 c i arg3 harg3 arg4 harg4 arg5 harg5 x0 x1 x2) (fun r => ?_) (fun r x => ?_) (fun r l => ?_)
    · exact congrFun (pro_c0 (hS0 := rfl) (hS1 := rfl) (hb0 := rfl) (hb1 := rfl) (hJ := rfl) (ht := rfl) ..) (ix2 r 0)
    · exact pro_w (hS0 := rfl) (hS1 := rfl) (hb0 := rfl) (hb1 := rfl) (hJ := rfl) (ht := rfl) ..
    · show k0_pay253 (F := Idealize.ShloMosaic.Ideal) (ix2 r l) = 0
      unfold_payloads
      pointwise
  · refine Head.start ha _ _ ht (diag1 c i arg3 harg3 arg4 harg4 arg5 harg5 x0 x1 x2) (next1 c i arg3 harg3 arg4 harg4 arg5 harg5 x0 x1 x2) (fun r => ?_) (fun r x => ?_) (fun r l => ?_)
    · exact congrFun (pro_c1 (hS0 := rfl) (hS1 := rfl) (hb0 := rfl) (hb1 := rfl) (hJ := rfl) (ht := rfl) ..) (ix2 r 0)
    · exact pro_w (hS0 := rfl) (hS1 := rfl) (hb0 := rfl) (hb1 := rfl) (hJ := rfl) (ht := rfl) ..
    · show k0_pay253 (F := Idealize.ShloMosaic.Ideal) (ix2 r l) = 0
      unfold_payloads
      pointwise

/-- There are eight pairs of heads. -/
theorem coord1_lt : (i 1).val < 8 := (i 1).isLt

/-- The queries as loaded. -/
theorem q_ld (r : Fin 256) (d : Fin 128) : View.readAt (Elt Idealize.ShloMosaic.Ideal) arg4.view
    (Rect.unit (s := S1x256x128) ![0, 0, 0] ![1, 256, 128] inb_S1x256x128_S1x256x128_0_0_0).toLoadRect (harg4.unread x1) (ix3 0 r d) = x1 (ix3 0 r d) := by
  rw [View.readAt_eq_ld, harg4.read_unread]
  refine View.ld_unit_apply_of _ _ _ _ _ _ ?_
  intro a
  fin_cases a
  · rfl
  · show r.val = 0 + r.val; omega
  · show d.val = 0 + d.val; omega

/-- The queries of head 0: the lanes of head 0. -/
theorem Q0_apply (r : Fin 256) (d : Fin 128) : Q0 c arg4 harg4 x1 (ix2 r d) = if d.val < 64 then x1 (ix3 0 r d) else 0 := by
  unfold Q0
  frame_open
  unfold_payloads
  pointwise
  refine (lane_lt_select _ d.isLt _ _).trans ?_
  exact congrArg (fun w => ite _ w _) (q_ld arg4 harg4 x1 r d)

/-- The queries of head 1: the lanes of head 1. -/
theorem Q1_apply (r : Fin 256) (d : Fin 128) : Q1 c arg4 harg4 x1 (ix2 r d) = if 64 ≤ d.val then x1 (ix3 0 r d) else 0 := by
  unfold Q1
  frame_open
  unfold_payloads
  pointwise
  refine (lane_ge_select _ d.isLt _ _).trans ?_
  exact congrArg (fun w => ite _ w _) (q_ld arg4 harg4 x1 r d)

/-- The place of the bias of head 0 of the pair. -/
theorem off1_eq : k0_off1 i = ![2 * (i 1).val] := by
  have ha := coord1_lt i
  unfold k0_off1
  dsimp only
  revert ha
  generalize (i 1).val = a
  intro ha
  congr 1
  revert a
  decide +kernel

/-- The place of the bias of head 1 of the pair. -/
theorem off2_eq : k0_off2 i = ![2 * (i 1).val + 1] := by
  have ha := coord1_lt i
  unfold k0_off2
  dsimp only
  revert ha
  generalize (i 1).val = a
  intro ha
  congr 1
  revert a
  decide +kernel

/-- A bias as loaded. -/
theorem b_ld (off : Fin 1 → ℕ) (n : Fin 16) (hoff : off = ![n.val]) (inb) (x) : View.readAt (Elt Idealize.ShloMosaic.Ideal) arg3.view
    (Rect.unit (s := S16) off ![1] inb).toLoadRect (harg3.unread x0) x = x0 (ix1 n) := by
  subst hoff
  rw [View.readAt_eq_ld, harg3.read_unread]
  refine View.ld_unit_apply_of _ _ _ _ _ _ ?_
  intro a
  have hx : (x 0).val < 1 := (x 0).isLt
  fin_cases a
  show n.val = n.val + (x 0).val
  change (x 0).val < 1 at hx
  exact (Nat.add_eq_left.mpr (Nat.lt_one_iff.mp hx)).symm

/-- The bias of head 0, in base two. -/
theorem B0_apply : B0 c i arg3 harg3 x0 = x0 (ix1 ⟨2 * (i 1).val, by have := coord1_lt i; omega⟩) * L2E := by
  unfold B0
  frame_open
  unfold_payloads
  pointwise
  exact congrArg (· * L2E) (b_ld _ _ _ _ ⟨2 * (i 1).val, by have := coord1_lt i; omega⟩ (off1_eq i) _ _)

/-- The bias of head 1, in base two. -/
theorem B1_apply : B1 c i arg3 harg3 x0 = x0 (ix1 ⟨2 * (i 1).val + 1, by have := coord1_lt i; omega⟩) * L2E := by
  unfold B1
  frame_open
  unfold_payloads
  pointwise
  exact congrArg (· * L2E) (b_ld _ _ _ _ ⟨2 * (i 1).val + 1, by have := coord1_lt i; omega⟩ (off2_eq i) _ _)

/-- What one query block stores: the weighted values of both heads, gated. -/
theorem r57_eq (htri : ∀ d k : Fin 256, x5 (ix2 d k) = if k < d then 1 else 0) (r : Fin 256) (l : Fin 128) :
    (kernelRun0_A.sl.r_57 (F := Idealize.ShloMosaic.Ideal) c i arg3 harg3 arg4 harg4 arg5 harg5 arg6 harg6 arg7 harg7 arg8 harg8 arg9 harg9 arg10 harg10 arg11 harg11 arg12 harg12 arg13 harg13 x0 x1 x2 x3 x4 x5) (ix2 r l)
      = ((∑ j ∈ Finset.Ico 0 8192, AK 8192 (GS (Q0 c arg4 harg4 x1) (fun j d => x2 (ix3 0 j d)) (B0 c i arg3 harg3 x0) r) (256 * (i 2).val + r.val) j * VM0 (fun j d => x3 (ix3 0 j d)) l j)
        + (∑ j ∈ Finset.Ico 0 8192, AK 8192 (GS (Q1 c arg4 harg4 x1) (fun j d => x2 (ix3 0 j d)) (B1 c i arg3 harg3 x0) r) (256 * (i 2).val + r.val) j * VM1 (fun j d => x3 (ix3 0 j d)) l j))
        * (x4 (ix3 0 r l) * Idealize.ShloMosaic.Ideal.div 1 (1 + Idealize.ShloMosaic.Ideal.exp (0 - x4 (ix3 0 r l)))) := by
  have ha := coord2_lt i
  obtain ⟨i0, i1⟩ := fin1_inv c i arg3 harg3 arg4 harg4 arg5 harg5 arg6 harg6 arg7 harg7 arg8 harg8 arg9 harg9 arg10 harg10 arg11 harg11 arg12 harg12 arg13 harg13 x0 x1 x2 x3 x5 htri
  have a0 := i0.add ha r l
  have a1 := i1.add ha r l
  rw [Nat.sub_self, Nat.mul_zero] at a0 a1
  rw [← a0, ← a1]
  clear a0 a1 i0 i1
  obtain ⟨S, hS⟩ : ∃ S, (fin1 c i arg3 harg3 arg4 harg4 arg5 harg5 arg6 harg6 arg7 harg7 arg8 harg8 arg9 harg9 arg10 harg10 arg11 harg11 arg12 harg12 arg13 harg13 x0 x1 x2 x3 x5) = S := ⟨_, rfl⟩
  rw [hS]
  unfold fin1 at hS
  unfold kernelRun0_A.sl.r_57
  unfold kernelRun0_A.sl.v1026
  unfold kernelRun0_A.sl.v1030
  unfold kernelRun0_A.sl.r_53
  unfold kernelRun0_A.sl.r_54
  rw [hS]
  clear hS
  have h2 : Scf.trips (k0_t2_loop i).lb (k0_t2_loop i).ub (k0_t2_loop i).st = 0 := trips2_eq i
  rw [h2]
  dsimp only [st_k0_t2, List.nil_append]
  rw [View.writes_append]
  unfold kernelRun0_A.sl.r_55 kernelRun0_A.sl.r_56
  unfold_payloads
  pointwise
  have hz : View.readAt (Elt Idealize.ShloMosaic.Ideal) arg7.view
      (Rect.unit (s := S1x256x128) ![0, 0, 0] ![1, 256, 128] inb_S1x256x128_S1x256x128_0_0_0).toLoadRect (harg7.unread x4) (ix3 0 r l) = x4 (ix3 0 r l) := by
    rw [View.readAt_eq_ld, harg7.read_unread]
    refine View.ld_unit_apply_of _ _ _ _ _ _ ?_
    intro a
    fin_cases a
    · rfl
    · show r.val = 0 + r.val; omega
    · show l.val = 0 + l.val; omega
  have hn : ∀ (x : Fin 256) (A : Fin 8192 → Fin 128 → EReal), natRow A x.val l = A (blk 0 (by omega) x) l := fun x A => by
    rw [← natRow_blk A 0 (by omega) x l, Nat.mul_zero, Nat.zero_add]
  refine congrArg₂ _ (congrArg₂ _ (congrArg _ (Finset.sum_congr rfl fun x _ => ?_)) (congrArg _ (Finset.sum_congr rfl fun x _ => ?_))) ?_
  · refine (congrArg (fun w => Scalar.select (IntOp.cmpi _ w _) _ _) (lanes _)).trans ?_
    refine (lane_lt_select _ l.isLt _ _).trans ?_
    rw [VM0, hn x]
    by_cases h : l.val < 64
    · refine (if_pos h).trans (congrArg₂ _ (read_slot _ _ 0 (by norm_num) _ _ _) ?_)
      rw [if_pos h]
      refine (read_blk _ _ _ 0 (by omega) rfl _ _ _).trans ?_
      rw [harg6.read_unread]
    · refine (if_neg h).trans ?_
      rw [if_neg h, mul_zero]
  · refine (congrArg (fun w => Scalar.select (IntOp.cmpi _ w _) _ _) (lanes _)).trans ?_
    refine (lane_ge_select _ l.isLt _ _).trans ?_
    rw [VM1, hn x]
    by_cases h : 64 ≤ l.val
    · refine (if_pos h).trans (congrArg₂ _ (read_slot _ _ 1 (by norm_num) _ _ _) ?_)
      rw [if_pos h]
      refine (read_blk _ _ _ 0 (by omega) rfl _ _ _).trans ?_
      rw [harg6.read_unread]
    · refine (if_neg h).trans ?_
      rw [if_neg h, mul_zero]
  · exact congrArg (fun z => z * Idealize.ShloMosaic.Ideal.div 1 (1 + Idealize.ShloMosaic.Ideal.exp (0 - z))) hz

/-- What the body leaves in the output's staging buffer. -/
theorem out_eq (htri : ∀ d k : Fin 256, x5 (ix2 d k) = if k < d then 1 else 0) (r : Fin 256) (l : Fin 128) :
    out0_A_6 (F := Idealize.ShloMosaic.Ideal) c i arg3 harg3 arg4 harg4 arg5 harg5 arg6 harg6 arg7 harg7 arg8 harg8 arg9 harg9 arg10 harg10 arg11 harg11 arg12 harg12 arg13 harg13 x0 x1 x2 x3 x4 x5 (ix3 0 r l)
      = ((∑ j ∈ Finset.Ico 0 8192, AK 8192 (GS (Q0 c arg4 harg4 x1) (fun j d => x2 (ix3 0 j d)) (B0 c i arg3 harg3 x0) r) (256 * (i 2).val + r.val) j * VM0 (fun j d => x3 (ix3 0 j d)) l j)
        + (∑ j ∈ Finset.Ico 0 8192, AK 8192 (GS (Q1 c arg4 harg4 x1) (fun j d => x2 (ix3 0 j d)) (B1 c i arg3 harg3 x0) r) (256 * (i 2).val + r.val) j * VM1 (fun j d => x3 (ix3 0 j d)) l j))
        * (x4 (ix3 0 r l) * Idealize.ShloMosaic.Ideal.div 1 (1 + Idealize.ShloMosaic.Ideal.exp (0 - x4 (ix3 0 r l)))) := by
  rw [← r57_eq c i arg3 harg3 arg4 harg4 arg5 harg5 arg6 harg6 arg7 harg7 arg8 harg8 arg9 harg9 arg10 harg10 arg11 harg11 arg12 harg12 arg13 harg13 x0 x1 x2 x3 x4 x5 htri r l]
  unfold out0_A_6 kernelRun0_A
  dsimp only
  generalize (kernelRun0_A.sl.r_57 (F := Idealize.ShloMosaic.Ideal) c i arg3 harg3 arg4 harg4 arg5 harg5 arg6 harg6 arg7 harg7 arg8 harg8 arg9 harg9 arg10 harg10 arg11 harg11 arg12 harg12 arg13 harg13 x0 x1 x2 x3 x4 x5) = Y
  let G : S1x256x128.Idx → Elt Idealize.ShloMosaic.Ideal .bf16 := fun y => Y (ix2 (y 1) (y 2))
  refine View.read_writes_apply_of_pieces (v := VO0_6) (f := VO0_6.junk) G _ ?_ (ix3 0 r l) ?_
  · intro p hp (x : p.1.shape.Idx)
    rw [List.mem_singleton] at hp
    subst hp
    have e : (Rect.unit (s := S1x256x128) ![0, 0, 0] ![1, 256, 128] inb_S1x256x128_S1x256x128_0_0_0).emb x = (x : S1x256x128.Idx) := by
      funext a
      apply Fin.ext
      fin_cases a <;> exact (Rect.idx_unit_val _ _ _ x _).trans (Nat.zero_add _)
    show k0_pay1 Y x = G _
    rw [e]
    unfold_payloads
    pointwise
    try rfl
  · refine ⟨_, List.mem_singleton.mpr rfl, ?_⟩
    rw [Rect.mem_set_unit]
    intro a
    fin_cases a
    · exact ⟨Nat.le_refl _, Nat.lt_succ_self 0⟩
    · exact ⟨Nat.zero_le _, r.isLt.trans_eq (Nat.zero_add _).symm⟩
    · exact ⟨Nat.zero_le _, l.isLt.trans_eq (Nat.zero_add _).symm⟩

end Cert.KernelIdeal.Attn

end
-- ==== Proof.Attn.Spec.lean ====
module

public import proofs.«01_k».proof.Proof.Attn.Row
public import Idealize.ShloMosaic.Lib.Pointwise
public import Idealize.ShloMosaic.Lib.IdealHost

@[expose] public section

noncomputable section

namespace Cert.Attn

open Idealize.ShloMosaic

/-- Arrays of queries, keys or values: batch, position, head, feature. -/
abbrev Heads := (⟨4, ![2, 8192, 16, 64]⟩ : Shape).Idx → EReal
/-- An array with one number per head. -/
abbrev PerHead := (⟨1, ![16]⟩ : Shape).Idx → EReal

/-- The constant one eighth, by which the scores are scaled. -/
def E8 : EReal := Ideal.ofBits .f32 0x3E000000#32

theorem E8_eq : E8 = ((1 / 8 : ℝ) : EReal) := by
  unfold E8
  simp [Ideal.ofBits, Ideal.ieee]
  rw [← EReal.coe_mul]
  norm_num

/-- The score of the query at `t` against the key at `j`. -/
def Zs (q k : Heads) (bias : PerHead) (b : Fin 2) (h : Fin 16) (t : Fin 8192) (j : ℕ) : EReal :=
  if hj : j < 8192 then (∑ d : Fin 64, q (ix4 b t h d) * k (ix4 b ⟨j, hj⟩ h d)) * E8 + bias (ix1 h) else 0

/-- Feature `d` of the value at position `j`. -/
def Vs (v : Heads) (b : Fin 2) (h : Fin 16) (d : Fin 64) (j : ℕ) : EReal :=
  if hj : j < 8192 then v (ix4 b ⟨j, hj⟩ h d) else 0

/-- The gate. -/
def gate (x : EReal) : EReal := x * Ideal.div 1 (1 + Ideal.exp (-x))

/-- One number of the layer's attention: the weighted sum of the values, gated. -/
def Out (q k v : Heads) (u : EReal) (bias : PerHead) (b : Fin 2) (h : Fin 16) (t : Fin 8192) (d : Fin 64) : EReal :=
  (∑ j ∈ Finset.Ico 0 8192, AR 8192 (Zs q k bias b h t) t.val j * Vs v b h d j) * gate u

theorem sum_fin_Ico (n : ℕ) (f : ℕ → EReal) : ∑ k : Fin n, f k.val = ∑ j ∈ Finset.Ico 0 n, f j := by
  rw [Fin.sum_univ_eq_sum_range, Finset.range_eq_Ico]

/-- A sum of extended reals times a nonnegative real. -/
theorem sum_mul_coe {ι : Type*} (s : Finset ι) (f : ι → EReal) (r : ℝ) (hr : 0 ≤ r) : (∑ j ∈ s, f j) * (r : EReal) = ∑ j ∈ s, f j * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top _) _ _

end Cert.Attn

end
-- ==== Proof.Attn.Pair.lean ====
module

public import proofs.«01_k».proof.Proof.Attn.Blk
public import proofs.«01_k».proof.Proof.Attn.Spec

@[expose] public section

set_option maxRecDepth 16384

noncomputable section

namespace Cert.KernelIdeal.Attn

open Idealize.ShloMosaic Idealize.ShloMosaic.TcCoe Cert.KernelIdeal.Gen Cert.Attn

/-- A sum over the lanes is the sum over the lanes of both heads. -/
theorem sum_lanes (f : Fin 128 → EReal) :
    ∑ d : Fin 128, f d = (∑ d : Fin 64, f ⟨d.val, by omega⟩) + ∑ d : Fin 64, f ⟨64 + d.val, by omega⟩ :=
  Fin.sum_univ_add (a := 64) (b := 64) f

/-- Products with a scaled query, summed. -/
theorem sum_scaled (f k : Fin 64 → EReal) : ∑ d, (f d * (E8 * L2E)) * k d = (∑ d, f d * k d) * E8 * L2E := by
  have h : E8 * L2E = ((1 / 8 * (Real.log 2)⁻¹ : ℝ) : EReal) := by
    rw [E8_eq]; unfold L2E; exact (EReal.coe_mul _ _).symm
  rw [mul_assoc, h, sum_mul_coe _ _ _ (mul_nonneg (by norm_num) L2E_real_pos.le)]
  exact Finset.sum_congr rfl fun d _ => mul_right_comm _ _ _

theorem head0_lt (p : Fin 8) : 2 * p.val < 16 := by omega
theorem head1_lt (p : Fin 8) : 2 * p.val + 1 < 16 := by omega
theorem head_lt (p : Fin 8) (d : Fin 128) : (128 * p.val + d.val) / 64 < 16 := by omega
theorem feat_lt (n : ℕ) : n % 64 < 64 := Nat.mod_lt _ (by decide)

variable (q k v : Heads) (bias : PerHead) (b : Fin 2) (p : Fin 8) (T : Fin 8192) (r : Fin 256) (l : Fin 128)
  (Q : S256x128.Idx → EReal) (K V : Fin 8192 → Fin 128 → EReal) (x : Fin 128 → EReal)
  (hx : ∀ d : Fin 128, x d = q (ix4 b T ⟨(128 * p.val + d.val) / 64, head_lt p d⟩ ⟨(128 * p.val + d.val) % 64, feat_lt _⟩) * (E8 * L2E))
  (hK : ∀ (j : Fin 8192) (d : Fin 128), K j d = k (ix4 b j ⟨(128 * p.val + d.val) / 64, head_lt p d⟩ ⟨(128 * p.val + d.val) % 64, feat_lt _⟩))
  (hV : ∀ (j : Fin 8192) (d : Fin 128), V j d = v (ix4 b j ⟨(128 * p.val + d.val) / 64, head_lt p d⟩ ⟨(128 * p.val + d.val) % 64, feat_lt _⟩))

include hx hK in
/-- The scores of head 0 of the pair are the reference's, in base two. -/
theorem scores0 (hQ : ∀ d : Fin 128, Q (ix2 r d) = if d.val < 64 then x d else 0) (j : ℕ) (hj : j < 8192) :
    GS Q K (bias (ix1 ⟨2 * p.val, head0_lt p⟩) * L2E) r j = Zs q k bias b ⟨2 * p.val, head0_lt p⟩ T j * L2E := by
  unfold GS Zs natRow
  rw [dif_pos hj, sum_lanes, add_mul_L2E, ← sum_scaled]
  refine congrArg (· + _) ?_
  refine Eq.trans (congrArg (_ + ·) (Finset.sum_eq_zero fun d _ => ?_)) ((add_zero _).trans ?_)
  swap
  · refine Finset.sum_congr rfl fun d _ => ?_
    have hd := d.isLt
    rw [hQ, if_pos hd, dif_pos hj, hx, hK]
    have e1 : (128 * p.val + d.val) / 64 = 2 * p.val := by omega
    have e2 : (128 * p.val + d.val) % 64 = d.val := by omega
    simp only [e1, e2]
  · rw [hQ, if_neg (by show ¬ 64 + d.val < 64; omega), zero_mul]

include hx hK in
/-- The scores of head 1 of the pair are the reference's, in base two. -/
theorem scores1 (hQ : ∀ d : Fin 128, Q (ix2 r d) = if 64 ≤ d.val then x d else 0) (j : ℕ) (hj : j < 8192) :
    GS Q K (bias (ix1 ⟨2 * p.val + 1, head1_lt p⟩) * L2E) r j = Zs q k bias b ⟨2 * p.val + 1, head1_lt p⟩ T j * L2E := by
  unfold GS Zs natRow
  rw [dif_pos hj, sum_lanes, add_mul_L2E, ← sum_scaled]
  refine congrArg (· + _) ?_
  refine Eq.trans (congrArg (· + _) (Finset.sum_eq_zero fun d _ => ?_)) ((zero_add _).trans ?_)
  swap
  · refine Finset.sum_congr rfl fun d _ => ?_
    have hd := d.isLt
    rw [hQ, if_pos (by show 64 ≤ 64 + d.val; omega), dif_pos hj, hx, hK]
    have e1 : (128 * p.val + (64 + d.val)) / 64 = 2 * p.val + 1 := by omega
    have e2 : (128 * p.val + (64 + d.val)) % 64 = d.val := by omega
    simp only [e1, e2]
  · have hd := d.isLt
    rw [hQ, if_neg (by show ¬ 64 ≤ d.val; omega), zero_mul]

include hV in
/-- The two heads' sums together: the sum of the head that the lane belongs to. -/
theorem pair (g0 g1 : ℕ → EReal) (h0 : ∀ j, j < 8192 → g0 j = Zs q k bias b ⟨2 * p.val, head0_lt p⟩ T j * L2E)
    (h1 : ∀ j, j < 8192 → g1 j = Zs q k bias b ⟨2 * p.val + 1, head1_lt p⟩ T j * L2E) :
    (∑ j ∈ Finset.Ico 0 8192, AK 8192 g0 T.val j * VM0 V l j) + (∑ j ∈ Finset.Ico 0 8192, AK 8192 g1 T.val j * VM1 V l j)
      = ∑ j ∈ Finset.Ico 0 8192, AR 8192 (Zs q k bias b ⟨(128 * p.val + l.val) / 64, head_lt p l⟩ T) T.val j
          * Vs v b ⟨(128 * p.val + l.val) / 64, head_lt p l⟩ ⟨(128 * p.val + l.val) % 64, feat_lt _⟩ j := by
  unfold VM0 VM1 Vs natRow
  by_cases hl : l.val < 64
  · have e1 : (128 * p.val + l.val) / 64 = 2 * p.val := by omega
    rw [Finset.sum_eq_zero (f := fun j => AK 8192 g1 T.val j * _) (fun j _ => by rw [if_neg (by omega), mul_zero]), add_zero]
    refine Finset.sum_congr rfl fun j hj => ?_
    have hj := (Finset.mem_Ico.mp hj).2
    rw [if_pos hl, dif_pos hj, dif_pos hj, hV, AK_eq_AR 8192 g0 _ T.val j hj h0]
    simp only [e1]
  · have e1 : (128 * p.val + l.val) / 64 = 2 * p.val + 1 := by omega
    rw [Finset.sum_eq_zero (f := fun j => AK 8192 g0 T.val j * _) (fun j _ => by rw [if_neg hl, mul_zero]), zero_add]
    refine Finset.sum_congr rfl fun j hj => ?_
    have hj := (Finset.mem_Ico.mp hj).2
    rw [if_pos (by omega), dif_pos hj, dif_pos hj, hV, AK_eq_AR 8192 g1 _ T.val j hj h1]
    simp only [e1]

end Cert.KernelIdeal.Attn

end
-- ==== Proof.Attn.Host.lean ====
module

public import proofs.«01_k».proof.Proof.Gen.KernelIdeal.Value
public import proofs.«01_k».proof.Proof.Attn.Pair
public import Idealize.ShloMosaic.Lib.Pipeline.ValueKit
public import Idealize.ShloMosaic.Lib.Claim

@[expose] public section

set_option maxRecDepth 16384

noncomputable section

namespace Cert.KernelIdeal.Attn

open Idealize.ShloMosaic Idealize.ShloMosaic.TcCoe Idealize.ShloMosaic.Tactic Idealize.SL.Sem
open Cert.KernelIdeal.Gen Cert.Attn

variable (m : (ℓ : Loc nD τ sig) → Buf (Elt Idealize.ShloMosaic.Ideal) ℓ) (c : Dev nD)

/-- The arguments, as arrays. -/
abbrev Aq : Heads := m ((c : Thread nD τ).loc main_arg0)
abbrev Ak : Heads := m ((c : Thread nD τ).loc main_arg1)
abbrev Av : Heads := m ((c : Thread nD τ).loc main_arg2)
abbrev Au : (⟨3, ![2, 8192, 14336]⟩ : Shape).Idx → EReal := m ((c : Thread nD τ).loc main_arg3)
abbrev Ab : PerHead := m ((c : Thread nD τ).loc main_arg4)

/-- The scale that the host gives the queries. -/
theorem scale_eq : Idealize.ShloMosaic.Ideal.div E8 (Idealize.ShloMosaic.Ideal.log (Idealize.ShloMosaic.Ideal.ofBits .f32 0x40000000#32)) = E8 * L2E := by
  have h2 : Idealize.ShloMosaic.Ideal.ofBits .f32 0x40000000#32 = ((2 : ℝ) : EReal) := by
    simp [Idealize.ShloMosaic.Ideal.ofBits, Idealize.ShloMosaic.Ideal.ieee]
    rw [← EReal.coe_mul]
    norm_num
  rw [h2, Idealize.ShloMosaic.Ideal.log_coe, if_neg (by norm_num), E8_eq]
  unfold L2E
  rw [Idealize.ShloMosaic.Ideal.div_coe log2_pos.ne', one_div (Real.log 2)]

/-- The queries as the kernel finds them. -/
theorem q_host (b : Fin 2) (t : Fin 8192) (x : Fin 1024) : (V m c main_v6 (ix3 b t x) : EReal)
    = Aq m c (ix4 b t ⟨x.val / 64, by omega⟩ ⟨x.val % 64, by omega⟩) * (E8 * L2E) := by
  rw [← scale_eq]
  entry_read
  pointwise
  try rfl

/-- The keys as the kernel finds them. -/
theorem k_host (b : Fin 2) (t : Fin 8192) (x : Fin 1024) : (V m c main_v8 (ix3 b t x) : EReal)
    = Ak m c (ix4 b t ⟨x.val / 64, by omega⟩ ⟨x.val % 64, by omega⟩) := by
  entry_read
  pointwise
  try rfl

/-- The values as the kernel finds them. -/
theorem v_host (b : Fin 2) (t : Fin 8192) (x : Fin 1024) : (V m c main_v10 (ix3 b t x) : EReal)
    = Av m c (ix4 b t ⟨x.val / 64, by omega⟩ ⟨x.val % 64, by omega⟩) := by
  entry_read
  pointwise
  try rfl

theorem sgt_bit : ∀ d k : Fin 256, IntOp.cmpi .sgt (BitVec.ofNat 32 d.val) (BitVec.ofNat 32 k.val) = if k < d then 1#1 else 0#1 := by
  decide +kernel

/-- The matrix that sums the later columns, as the kernel finds it. -/
theorem tri_host (d k : Fin 256) : (V m c main_v17 (ix2 d k) : EReal) = if k < d then (1 : EReal) else 0 := by
  entry_read
  pointwise
  show FloatOps.uitofp (F := Idealize.ShloMosaic.Ideal) FTy.bf16 (IntOp.cmpi .sgt (BitVec.ofNat 32 d.val) (BitVec.ofNat 32 k.val)) = _
  rw [sgt_bit]
  by_cases h : k < d
  · rw [if_pos h, if_pos h]
    show (((1#1 : BitVec 1).toNat : ℝ) : EReal) = 1
    simp
  · rw [if_neg h, if_neg h]
    show (((0#1 : BitVec 1).toNat : ℝ) : EReal) = 0
    simp

theorem idx0 (t : Fin cfg0.N) : win0_0.index t = ![0] := by revert t; decide +kernel
theorem idx1 (t : Fin cfg0.N) : win0_1.index t = ![(grid0.coords t 0).val, (grid0.coords t 2).val, (grid0.coords t 1).val] := by revert t; decide +kernel
theorem idx2 (t : Fin cfg0.N) : win0_2.index t = ![(grid0.coords t 0).val, 0, (grid0.coords t 1).val] := by revert t; decide +kernel
theorem idx3 (t : Fin cfg0.N) : win0_3.index t = ![(grid0.coords t 0).val, 0, (grid0.coords t 1).val] := by revert t; decide +kernel
theorem idx4 (t : Fin cfg0.N) : win0_4.index t = ![(grid0.coords t 0).val, (grid0.coords t 2).val, 48 + (grid0.coords t 1).val] := by revert t; decide +kernel
theorem idx5 (t : Fin cfg0.N) : win0_5.index t = ![0, 0] := by revert t; decide +kernel
theorem idx6 (t : Fin cfg0.N) : win0_6.index t = ![(grid0.coords t 0).val, (grid0.coords t 2).val, (grid0.coords t 1).val] := by revert t; decide +kernel

theorem coord0_lt (i : grid0.Coords) : (i 0).val < 2 := (i 0).isLt

/-- The batch of a grid point. -/
def bt (t : Fin cfg0.N) : Fin 2 := ⟨(grid0.coords t 0).val, coord0_lt _⟩
/-- The pair of heads of a grid point. -/
def pr (t : Fin cfg0.N) : Fin 8 := ⟨(grid0.coords t 1).val, coord1_lt _⟩
/-- The position of row `r` of a grid point's query block. -/
def row (t : Fin cfg0.N) (r : Fin 256) : Fin 8192 := ⟨256 * (grid0.coords t 2).val + r.val, by have := coord2_lt (grid0.coords t); omega⟩
/-- The column of lane `l` of a grid point's block. -/
def col (t : Fin cfg0.N) (l : Fin 128) : Fin 1024 := ⟨128 * (pr t).val + l.val, by have := (pr t).isLt; omega⟩

theorem blk_row (a : ℕ) (r : ℕ) : a * 256 + r = 256 * a + r := by rw [mul_comm]
theorem blk_col (a : ℕ) (l : ℕ) : a * 128 + l = 128 * a + l := by rw [mul_comm]
theorem blk_gate (a : ℕ) (l : ℕ) : (48 + a) * 128 + l = 6144 + (128 * a + l) := by omega

theorem emb6 (t : Fin cfg0.N) (r : Fin 256) (l : Fin 128) : (win0_6.blk t).view.emb (ix3 0 r l) = ix3 (bt t) (row t r) (col t l) := by
  funext a
  fin_cases a <;> refine Fin.ext ?_ <;> blk_simp [idx6]
  · rfl
  · exact blk_row _ _
  · exact blk_col _ _

theorem iblk0_eq (t : Fin cfg0.N) (h : Fin 16) : iblk m c 0 t (ix1 h) = Ab m c (ix1 h) := by
  unfold Ab
  rw [← V_main_arg4 m c]
  blk_simp [iblk]
  refine congrArg (V m c main_arg4) ?_
  funext a
  fin_cases a
  refine Fin.ext ?_
  blk_simp [idx0]

theorem iblk1_eq (t : Fin cfg0.N) (r : Fin 256) (d : Fin 128) : iblk m c 1 t (ix3 0 r d)
    = V m c main_v6 (ix3 (bt t) (row t r) (col t d)) := by
  blk_simp [iblk]
  refine congrArg (V m c main_v6) ?_
  funext a
  fin_cases a <;> refine Fin.ext ?_ <;> blk_simp [idx1]
  · rfl
  · exact blk_row _ _
  · exact blk_col _ _

theorem iblk2_eq (t : Fin cfg0.N) (j : Fin 8192) (d : Fin 128) : iblk m c 2 t (ix3 0 j d)
    = V m c main_v8 (ix3 (bt t) j (col t d)) := by
  blk_simp [iblk]
  refine congrArg (V m c main_v8) ?_
  funext a
  fin_cases a <;> refine Fin.ext ?_ <;> blk_simp [idx2]
  · rfl
  · rfl
  · exact blk_col _ _

theorem iblk3_eq (t : Fin cfg0.N) (j : Fin 8192) (d : Fin 128) : iblk m c 3 t (ix3 0 j d)
    = V m c main_v10 (ix3 (bt t) j (col t d)) := by
  blk_simp [iblk]
  refine congrArg (V m c main_v10) ?_
  funext a
  fin_cases a <;> refine Fin.ext ?_ <;> blk_simp [idx3]
  · rfl
  · rfl
  · exact blk_col _ _

theorem iblk4_eq (t : Fin cfg0.N) (r : Fin 256) (l : Fin 128) : iblk m c 4 t (ix3 0 r l)
    = Au m c (ix3 (bt t) (row t r) ⟨6144 + (col t l).val, by have := (col t l).isLt; omega⟩) := by
  unfold Au
  rw [← V_main_arg3 m c]
  blk_simp [iblk]
  refine congrArg (V m c main_arg3) ?_
  funext a
  fin_cases a <;> refine Fin.ext ?_ <;> blk_simp [idx4]
  · rfl
  · exact blk_row _ _
  · exact blk_gate _ _

theorem iblk5_eq (t : Fin cfg0.N) (d k : Fin 256) : iblk m c 5 t (ix2 d k) = V m c main_v17 (ix2 d k) := by
  blk_simp [iblk]
  refine congrArg (V m c main_v17) ?_
  funext a
  fin_cases a <;> refine Fin.ext ?_ <;> blk_simp [idx5]

/-- The result: the layer's attention at every place. -/
def G : (⟨3, ![2, 8192, 1024]⟩ : Shape).Idx → EReal := fun y =>
  Out (Aq m c) (Ak m c) (Av m c) (Au m c (ix3 (y 0) (y 1) ⟨6144 + (y 2).val, by have := (y 2).isLt; change (y 2).val < 1024 at this; omega⟩)) (Ab m c)
    (y 0) ⟨(y 2).val / 64, by have := (y 2).isLt; change (y 2).val < 1024 at this; omega⟩ (y 1) ⟨(y 2).val % 64, by omega⟩

/-- What the body leaves at a grid point is the result's block there. -/
theorem outs_eq (t : Fin cfg0.N) (r : Fin 256) (l : Fin 128) :
    (outsAt0 m c t (ix3 0 r l) : EReal) = G m c (ix3 (bt t) (row t r) (col t l)) := by
  have htri : ∀ d k : Fin 256, iblk m c 5 t (ix2 d k) = if k < d then (1 : EReal) else 0 :=
    fun d k => (iblk5_eq m c t d k).trans (tri_host m c d k)
  have hx : ∀ d : Fin 128, iblk m c 1 t (ix3 0 r d) = Aq m c (ix4 (bt t) (row t r) ⟨(128 * (pr t).val + d.val) / 64, by have := (pr t).isLt; omega⟩ ⟨(128 * (pr t).val + d.val) % 64, by omega⟩) * (E8 * L2E) :=
    fun d => (iblk1_eq m c t r d).trans (q_host m c _ _ _)
  have hK : ∀ (j : Fin 8192) (d : Fin 128), iblk m c 2 t (ix3 0 j d) = Ak m c (ix4 (bt t) j ⟨(128 * (pr t).val + d.val) / 64, by have := (pr t).isLt; omega⟩ ⟨(128 * (pr t).val + d.val) % 64, by omega⟩) :=
    fun j d => (iblk2_eq m c t j d).trans (k_host m c _ _ _)
  have hV : ∀ (j : Fin 8192) (d : Fin 128), iblk m c 3 t (ix3 0 j d) = Av m c (ix4 (bt t) j ⟨(128 * (pr t).val + d.val) / 64, by have := (pr t).isLt; omega⟩ ⟨(128 * (pr t).val + d.val) % 64, by omega⟩) :=
    fun j d => (iblk3_eq m c t j d).trans (v_host m c _ _ _)
  unfold outsAt0
  refine (out_eq c (grid0.coords t) _ _ _ _ _ _ _ _ _ _ _ _ _ _ _ _ _ _ _ _ _ _ _ _ _ _ _ _ htri r l).trans ?_
  rw [B0_apply, B1_apply, iblk0_eq, iblk0_eq, iblk4_eq, zero_sub]
  refine congrArg (· * _) ?_
  exact pair (Aq m c) (Ak m c) (Av m c) (Ab m c) (bt t) (pr t) (row t r) l (fun j d => iblk m c 3 t (ix3 0 j d)) hV _ _
    (fun j hj => scores0 (Aq m c) (Ak m c) (Ab m c) (bt t) (pr t) (row t r) r _ _ _ hx hK (fun d => Q0_apply _ _ _ _ r d) j hj)
    (fun j hj => scores1 (Aq m c) (Ak m c) (Ab m c) (bt t) (pr t) (row t r) r _ _ _ hx hK (fun d => Q1_apply _ _ _ _ r d) j hj)

theorem outs_blk (t : Fin cfg0.N) (y : S1x256x128.Idx) : (outsAt0 m c t y : EReal) = G m c ((win0_6.blk t).view.emb y) := by
  obtain ⟨r, l, rfl⟩ : ∃ (r : Fin 256) (l : Fin 128), y = ix3 0 r l :=
    ⟨y 1, y 2, (eq_ix3 y).trans (congrArg (fun a => ix3 a (y 1) (y 2)) (Subsingleton.elim (α := Fin 1) _ _))⟩
  rw [emb6]
  exact outs_eq m c t r l

/-- The kernel's result array after the run. -/
theorem arr : (dats m 0 c).arrAt 6 cfg0.N = G m c := by
  refine (dats m 0 c).arrAt_eq_of_covers 6 _ (by decide +kernel) fun t hf y => ?_
  blk_simp
  rw [after0_6]
  exact outs_blk m c t y

end Cert.KernelIdeal.Attn

end
-- ==== Proof.Attn.Window.lean ====
/- A running sum from the end of the last axis, as the host prints it (a window of the whole length, padded at the high end), is the sum over the elements from that
   place to the end. -/
module

public import Idealize.ShloMosaic.PureOps.Ideal
public import Idealize.ShloMosaic.Lib.ValueIdxCore

@[expose] public section

noncomputable section

namespace Cert.Attn

open Idealize.ShloMosaic Idealize.ShloMosaic.ValueIdx

theorem foldl_add_fin {n : ℕ} (f : Fin n → EReal) (v : EReal) : (List.finRange n).foldl (fun r k => r + f k) v = v + ∑ k, f k := by
  have h : ∀ (l : List (Fin n)) (w : EReal), l.foldl (fun r k => r + f k) w = w + (l.map f).sum := by
    intro l
    induction l with
    | nil => intro w; simp
    | cons a l ih => intro w; rw [List.foldl_cons, ih, List.map_cons, List.sum_cons, add_assoc]
  rw [h, ← List.ofFn_eq_map, List.sum_ofFn]

/-- The windows of one place on three axes and of `N` places on the fourth, by their place on the fourth. -/
def lastAxis (N : ℕ) : (⟨4, ![1, 1, 1, N]⟩ : Shape).Idx ≃ Fin N where
  toFun i := i 3
  invFun k := ix4 0 0 0 k
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

/-- The running sum from the end at one place: the sum of the elements from that place on. -/
theorem suffix_sum {A B C N N1 : ℕ} {φ : FTy} (x : FVec Ideal ⟨4, ![A, B, C, N]⟩ φ) (init : (⟨0, ![]⟩ : Shape).Idx → EReal)
    (h : (⟨4, ![A, B, C, N]⟩ : Shape).ReduceWindows ![1, 1, 1, N] ![1, 1, 1, 1] ![0, 0, 0, 0] ![0, 0, 0, N1] ⟨4, ![A, B, C, N]⟩)
    (hu : 0 < (⟨0, ![]⟩ : Shape).numel) (hinit : init (Shape.Idx.first hu) = 0) (a : Fin A) (b : Fin B) (c : Fin C) (d : Fin N) (f : ℕ → EReal)
    (hf : ∀ k : Fin N, x (ix4 a b c k) = f k.val) :
    Host.reduceWindowAdd (F := Ideal) ![1, 1, 1, N] ![1, 1, 1, 1] ![0, 0, 0, 0] ![0, 0, 0, N1] x init h hu (ix4 a b c d)
      = ∑ k ∈ Finset.Ico d.val N, f k := by
  unfold Host.reduceWindowAdd
  rw [Ideal.hostReduceWindowAdd_def]
  unfold Ideal.hostReduceWindowAdd Host.reduceWindow
  dsimp only
  rw [hinit, foldl_add_fin, zero_add]
  let g : (⟨4, ![1, 1, 1, N]⟩ : Shape).Idx → EReal := fun w => if d.val + (w 3).val < N then f (d.val + (w 3).val) else 0
  rw [Finset.sum_congr rfl (g := fun n => g ((⟨4, ![1, 1, 1, N]⟩ : Shape).rowMajor.symm n)) (fun n _ => ?_), Equiv.sum_comp _ g,
    ← Equiv.sum_comp (lastAxis N).symm g, Finset.sum_Ico_eq_sum_range]
  · show ∑ k : Fin N, (fun k : ℕ => if d.val + k < N then f (d.val + k) else 0) k.val = _
    rw [Fin.sum_univ_eq_sum_range (fun k => if d.val + k < N then f (d.val + k) else 0) N, ← Finset.sum_filter]
    apply Finset.sum_congr _ (fun _ _ => rfl)
    ext k
    have := d.isLt
    simp only [Finset.mem_filter, Finset.mem_range]
    omega
  · have w0 : ((⟨4, ![1, 1, 1, N]⟩ : Shape).rowMajor.symm n 0).val = 0 := Nat.lt_one_iff.mp ((⟨4, ![1, 1, 1, N]⟩ : Shape).rowMajor.symm n 0).isLt
    have w1 : ((⟨4, ![1, 1, 1, N]⟩ : Shape).rowMajor.symm n 1).val = 0 := Nat.lt_one_iff.mp ((⟨4, ![1, 1, 1, N]⟩ : Shape).rowMajor.symm n 1).isLt
    have w2 : ((⟨4, ![1, 1, 1, N]⟩ : Shape).rowMajor.symm n 2).val = 0 := Nat.lt_one_iff.mp ((⟨4, ![1, 1, 1, N]⟩ : Shape).rowMajor.symm n 2).isLt
    show _ = if d.val + ((⟨4, ![1, 1, 1, N]⟩ : Shape).rowMajor.symm n 3).val < N then f (d.val + ((⟨4, ![1, 1, 1, N]⟩ : Shape).rowMajor.symm n 3).val) else 0
    have e0 : ∀ (p : (⟨4, ![A, B, C, N]⟩ : Shape).Idx), (p 0).val = a.val → (p 1).val = b.val → (p 2).val = c.val → p = ix4 a b c (p 3) := by
      intro p h0 h1 h2
      rw [eq_ix4 p]
      have h0' : p 0 = a := Fin.ext h0
      have h1' : p 1 = b := Fin.ext h1
      have h2' : p 2 = c := Fin.ext h2
      rw [h0', h1', h2']; rfl
    split
    · next hin =>
      have h3 : d.val * 1 + ((⟨4, ![1, 1, 1, N]⟩ : Shape).rowMajor.symm n 3).val < N := (hin 3).2
      rw [Nat.mul_one] at h3
      rw [if_pos h3]
      refine (congrArg x (e0 _ ?_ ?_ ?_)).trans ((hf _).trans ?_)
      · show a.val * 1 + ((⟨4, ![1, 1, 1, N]⟩ : Shape).rowMajor.symm n 0).val - 0 = a.val; omega
      · show b.val * 1 + ((⟨4, ![1, 1, 1, N]⟩ : Shape).rowMajor.symm n 1).val - 0 = b.val; omega
      · show c.val * 1 + ((⟨4, ![1, 1, 1, N]⟩ : Shape).rowMajor.symm n 2).val - 0 = c.val; omega
      · show f (d.val * 1 + ((⟨4, ![1, 1, 1, N]⟩ : Shape).rowMajor.symm n 3).val - 0) = _
        rw [Nat.mul_one, Nat.sub_zero]
    · next hin =>
      rw [if_neg]
      intro hlt
      apply hin
      intro ax
      match ax with
      | ⟨0, _⟩ => show 0 ≤ a.val * 1 + ((⟨4, ![1, 1, 1, N]⟩ : Shape).rowMajor.symm n 0).val ∧ a.val * 1 + ((⟨4, ![1, 1, 1, N]⟩ : Shape).rowMajor.symm n 0).val - 0 < A; have := a.isLt; omega
      | ⟨1, _⟩ => show 0 ≤ b.val * 1 + ((⟨4, ![1, 1, 1, N]⟩ : Shape).rowMajor.symm n 1).val ∧ b.val * 1 + ((⟨4, ![1, 1, 1, N]⟩ : Shape).rowMajor.symm n 1).val - 0 < B; have := b.isLt; omega
      | ⟨2, _⟩ => show 0 ≤ c.val * 1 + ((⟨4, ![1, 1, 1, N]⟩ : Shape).rowMajor.symm n 2).val ∧ c.val * 1 + ((⟨4, ![1, 1, 1, N]⟩ : Shape).rowMajor.symm n 2).val - 0 < C; have := c.isLt; omega
      | ⟨3, _⟩ => show 0 ≤ d.val * 1 + ((⟨4, ![1, 1, 1, N]⟩ : Shape).rowMajor.symm n 3).val ∧ d.val * 1 + ((⟨4, ![1, 1, 1, N]⟩ : Shape).rowMajor.symm n 3).val - 0 < N; omega

end Cert.Attn

end
-- ==== Proof.Attn.Ref.lean ====
module

public import proofs.«01_k».proof.Proof.Gen.ReferenceIdeal.Read
public import proofs.«01_k».proof.Proof.Attn.Spec
public import proofs.«01_k».proof.Proof.Attn.Window
public import proofs.«01_k».proof.Proof.Attn.Words

@[expose] public section

set_option maxRecDepth 16384

noncomputable section

namespace Cert.ReferenceIdeal.Attn

open Idealize.ShloMosaic Cert.ReferenceIdeal Cert.ReferenceIdeal.Gen Cert.ReferenceIdeal.Read Cert.Attn

variable (x0 x1 x2 : (⟨S2x8192x16x64, .f32⟩ : BufTy).Contents (Elt Ideal)) (x3 : (⟨S2x8192x14336, .f32⟩ : BufTy).Contents (Elt Ideal)) (x4 : (⟨S16, .f32⟩ : BufTy).Contents (Elt Ideal)) (b : Fin 2) (h : Fin 16) (t j : Fin 8192)

/-- The reference's scores. -/
theorem score : val_main_v6 (F := Ideal) x0 x1 x4 (ix4 b h t j) = Zs x0 x1 x4 b h t j.val := by
  unfold val_main_v6 val_main_v3 val_main_v1 val_main_v2 val_main_cst val_main_v5 val_main_v4
  pointwise
  unfold Zs
  rw [dif_pos j.isLt]
  rfl

/-- The reference's logarithm of the sigmoid, of the negated scores. -/
theorem logsig_neg : val_main_v14 (F := Ideal) x0 x1 x4 (ix4 b h t j) = -(spE (-(-(Zs x0 x1 x4 b h t j.val)))) := by
  rw [← score]
  simp only [val_main_v14, val_main_call0_v1, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_v0, val_main_call0_v0, val_main_v13, val_main_call0_call0_cst]
  generalize val_main_v6 (F := Ideal) x0 x1 x4 = z
  pointwise
  rw [if_neg (fun h => h rfl)]
  rfl

/-- The reference's logarithm of the sigmoid, of the scores. -/
theorem logsig : val_main_v18 (F := Ideal) x0 x1 x4 (ix4 b h t j) = -(spE (-(Zs x0 x1 x4 b h t j.val))) := by
  rw [← score]
  simp only [val_main_v18, val_main_call3_v1, val_main_call3_call0_v4, val_main_call3_call0_v6, val_main_call3_call0_v11, val_main_call3_call0_v1, val_main_call3_call0_v10, val_main_call3_call0_v9, val_main_call3_call0_v8, val_main_call3_call0_v7, val_main_call3_call0_v3, val_main_call3_call0_v2, val_main_call3_call0_v0, val_main_call3_v0, val_main_call3_call0_cst]
  generalize val_main_v6 (F := Ideal) x0 x1 x4 = z
  pointwise
  rw [if_neg (fun h => h rfl)]
  rfl

/-- The mask: a query sees the keys before it. -/
theorem mask (x y : EReal) : Scalar.select (val_main_v11 (F := Ideal) (ix2 t j)) x y = if j.val < t.val then x else y := by
  simp only [val_main_v11, val_main_v10, val_main_v9, val_main_v8, val_main_v7, val_main_v0]
  pointwise
  rw [WordCmp.cmpi_slt_ofNat (by have := j.isLt; norm_num; omega) (by have := t.isLt; norm_num; omega)]
  unfold Scalar.select
  by_cases h : j.val < t.val <;> simp [h]

/-- The logarithm of the part kept at a key. -/
theorem keep : val_main_v15 (F := Ideal) x0 x1 x4 (ix4 b h t j) = LK (Zs x0 x1 x4 b h t) t.val j.val := by
  unfold LK
  rw [← logsig_neg]
  simp only [val_main_v15, val_main_call1_v1, val_main_call1_v2, val_main_v12, val_main_call1_v0, val_main_cst_0]
  generalize val_main_v14 (F := Ideal) x0 x1 x4 = z
  pointwise
  rw [mask]
  refine congrArg (fun y : EReal => if j.val < t.val then z (ix4 b h t j) else y) ?_
  show Ideal.ofBits .f32 0#32 = 0
  exact Ideal.ofBits_zero_f32

/-- The sum of the logarithms kept from a key on. -/
theorem keep_sum : val_main_v16 (F := Ideal) x0 x1 x4 (ix4 b h t j) = ∑ k ∈ Finset.Ico j.val 8192, LK (Zs x0 x1 x4 b h t) t.val k := by
  unfold val_main_v16
  refine suffix_sum _ _ _ _ ?_ b h t j _ (fun k => keep x0 x1 x4 b h t k)
  simp only [val_main_call2_v0, val_main_call2_cst]
  pointwise

/-- The reference's weights. -/
theorem weight : val_main_v21 (F := Ideal) x0 x1 x4 (ix4 b h t j) = AR 8192 (Zs x0 x1 x4 b h t) t.val j.val := by
  unfold AR
  rw [← keep, ← keep_sum, ← logsig]
  unfold val_main_v21 val_main_v20 val_main_v19 val_main_v17 val_main_call4_v1 val_main_call4_v2 val_main_call4_v0 val_main_cst_1 val_main_v12
  generalize val_main_v18 (F := Ideal) x0 x1 x4 = a
  generalize val_main_v16 (F := Ideal) x0 x1 x4 = s
  generalize val_main_v15 (F := Ideal) x0 x1 x4 = l
  pointwise
  rw [mask]
  refine congrArg (fun y : EReal => if j.val < t.val then Ideal.exp (a (ix4 b h t j) + (s (ix4 b h t j) - l (ix4 b h t j))) else y) ?_
  show Ideal.ofBits .f32 0#32 = 0
  exact Ideal.ofBits_zero_f32

/-- The reference's gate. -/
theorem gate_eq (x : Fin 1024) : val_main_v26 (F := Ideal) x3 (ix3 b t x) = gate (x3 (ix3 b t ⟨6144 + x.val, by omega⟩)) := by
  simp only [val_main_v26, val_main_v25, val_main_call5_v5, val_main_call5_v4, val_main_call5_v3, val_main_call5_v2, val_main_call5_v1, val_main_call5_v0, val_main_call5_cst, val_main_call5_cst_0]
  pointwise
  rfl

/-- The reference's result, number by number. -/
theorem result (x : Fin 1024) : val_main_v28 (F := Ideal) x0 x1 x2 x3 x4 (ix3 b t x)
    = Out x0 x1 x2 (x3 (ix3 b t ⟨6144 + x.val, by omega⟩)) x4 b ⟨x.val / 64, by omega⟩ t ⟨x.val % 64, by omega⟩ := by
  unfold Out
  rw [← gate_eq, ← sum_fin_Ico]
  unfold val_main_v28 val_main_v27
  generalize val_main_v26 (F := Ideal) x3 = g
  unfold val_main_v24 val_main_v23 val_main_v22
  simp only [← weight]
  generalize val_main_v21 (F := Ideal) x0 x1 x4 = a
  pointwise
  refine congrArg (· * g (ix3 b t x)) (Finset.sum_congr rfl fun k _ => ?_)
  unfold Vs
  rw [dif_pos k.isLt, mul_comm]

end Cert.ReferenceIdeal.Attn

end
-- ==== Proof.Proj.Spec.lean ====
/- The layer's normalised and projected input, number by number, over the extended reals. -/
module

public import Idealize.ShloMosaic.Lib.Pointwise
public import Idealize.ShloMosaic.Lib.IdealHost

@[expose] public section

noncomputable section

namespace Cert.Projecting

open Idealize.ShloMosaic

/-- One number per batch, position and feature. -/
abbrev Act := (⟨3, ![2, 8192, 1024]⟩ : Shape).Idx → EReal
/-- One number per feature. -/
abbrev PerFeat := (⟨1, ![1024]⟩ : Shape).Idx → EReal
/-- The projection's weights. -/
abbrev Wt := (⟨2, ![1024, 14464]⟩ : Shape).Idx → EReal

/-- What a row is scaled by: the reciprocal root of its mean square. -/
def inv (x : Act) (b : Fin 2) (t : Fin 8192) : EReal :=
  Ideal.rsqrt (Ideal.div (∑ k : Fin 1024, x (ix3 b t k) * x (ix3 b t k)) (Ideal.ofBits .f32 0x44800000#32) + Ideal.ofBits .f32 0x358637BD#32)

/-- The normalised input. -/
def Nrm (x : Act) (g : PerFeat) (b : Fin 2) (t : Fin 8192) (k : Fin 1024) : EReal := x (ix3 b t k) * inv x b t * g (ix1 k)

/-- The weights' column that gives column `j` of the result: 128 columns are left out from 10240 on. -/
def wcol (j : Fin 14336) : Fin 14464 := if h : j.val < 10240 then ⟨j.val, by omega⟩ else ⟨j.val + 128, by omega⟩

/-- One number of the projected input. -/
def Out (x : Act) (g : PerFeat) (w : Wt) (b : Fin 2) (t : Fin 8192) (j : Fin 14336) : EReal :=
  ∑ k : Fin 1024, Nrm x g b t k * w (ix2 k (wcol j))

theorem bat_lt (n : Fin 16384) : n.val / 8192 < 2 := by omega
theorem pos_lt (n : Fin 16384) : n.val % 8192 < 8192 := by omega

end Cert.Projecting

end
-- ==== Proof.Proj.Host.lean ====
/- The kernel's projection: what every grid point leaves, and with it the result. -/
module

public import proofs.«01_k».proof.Proof.Gen.ProjIdeal.Value
public import proofs.«01_k».proof.Proof.Proj.Spec
public import Idealize.ShloMosaic.Lib.Pipeline.ValueKit
public import Idealize.ShloMosaic.Lib.Claim

@[expose] public section

set_option maxRecDepth 16384

noncomputable section

namespace Cert.ProjIdeal.Projecting

open Idealize.ShloMosaic Idealize.ShloMosaic.TcCoe Idealize.ShloMosaic.Tactic Idealize.SL.Sem
open Cert.ProjIdeal.Gen Cert.Projecting

variable (m : (ℓ : Loc nD τ sig) → Buf (Elt Idealize.ShloMosaic.Ideal) ℓ) (c : Dev nD)

/-- The arguments, as arrays. -/
abbrev Ax : Act := m ((c : Thread nD τ).loc main_arg0)
abbrev Ag : PerFeat := m ((c : Thread nD τ).loc main_arg1)
abbrev Aw : Wt := m ((c : Thread nD τ).loc main_arg2)

/-- The batch of a row. -/
def bat (n : Fin 16384) : Fin 2 := ⟨n.val / 8192, bat_lt n⟩
/-- The position of a row. -/
def pos (n : Fin 16384) : Fin 8192 := ⟨n.val % 8192, pos_lt n⟩

variable (n : Fin 16384) (k : Fin 1024)

theorem idx0 (t : Fin cfg0.N) : win0_0.index t = ![t.val / 14, 0] := by revert t; decide +kernel
theorem idx1 (t : Fin cfg0.N) : win0_1.index t = ![0, 0] := by revert t; decide +kernel
theorem idx2 (t : Fin cfg0.N) : win0_2.index t = ![0, t.val % 14] := by revert t; decide +kernel
theorem idx3 (t : Fin cfg0.N) : win0_3.index t = ![t.val / 14, t.val % 14] := by revert t; decide +kernel

variable (i : grid0.Coords) (arg2 : Memref sig .tc .vmem S1024x1024 .f32) (harg2 : arg2.IsWhole) (arg3 : Memref sig .tc .vmem S1x1024 .f32) (harg3 : arg3.IsWhole)
  (arg4 : Memref sig .tc .vmem S1024x1024 .bf16) (harg4 : arg4.IsWhole) (arg5 : Memref sig .tc .vmem S1024x1024 .f32) (harg5 : arg5.IsWhole)
  (arg6 : Memref sig .tc .vmem S1024x1024 .bf16) (harg6 : arg6.IsWhole)
  (x0 : FVec Idealize.ShloMosaic.Ideal S1024x1024 .f32) (x1 : FVec Idealize.ShloMosaic.Ideal S1x1024 .f32) (x2 xs : FVec Idealize.ShloMosaic.Ideal S1024x1024 .bf16)
  (r l : Fin 1024)

/-- What the body keeps of a row at the first column block: the row, normalised. -/
theorem keep_A (hc : cond0_0 i) : (sout0_A_0 (F := Idealize.ShloMosaic.Ideal) c i arg2 harg2 arg3 harg3 arg4 harg4 arg5 harg5 arg6 harg6 hc x0 x1 x2 (ix2 r k) : EReal)
    = x0 (ix2 r k) * Idealize.ShloMosaic.Ideal.rsqrt (Idealize.ShloMosaic.Ideal.div (∑ k : Fin 1024, x0 (ix2 r k) * x0 (ix2 r k)) (Idealize.ShloMosaic.Ideal.ofBits .f32 0x44800000#32) + Idealize.ShloMosaic.Ideal.ofBits .f32 0x358637BD#32)
      * x1 (ix2 0 k) := by
  unfold sout0_A_0
  frame_out
  unfold_payloads
  pointwise

/-- What the body leaves at the first column block, of the rows it keeps. -/
theorem out_A (hc : cond0_0 i) : (out0_A_3 (F := Idealize.ShloMosaic.Ideal) c i arg2 harg2 arg3 harg3 arg4 harg4 arg5 harg5 arg6 harg6 hc x0 x1 x2 (ix2 r l) : EReal)
    = ∑ k : Fin 1024, sout0_A_0 (F := Idealize.ShloMosaic.Ideal) c i arg2 harg2 arg3 harg3 arg4 harg4 arg5 harg5 arg6 harg6 hc x0 x1 x2 (ix2 r k) * x2 (ix2 k l) := by
  unfold out0_A_3 sout0_A_0
  frame_out
  generalize k0_pay1 (F := Idealize.ShloMosaic.Ideal) x0 x1 = h
  unfold_payloads
  pointwise

/-- What the body leaves at a later column block, of the rows kept. -/
theorem out_B (hc : ¬cond0_0 i) : (out0_B_3 (F := Idealize.ShloMosaic.Ideal) c i arg2 harg2 arg3 harg3 arg4 harg4 arg5 harg5 arg6 harg6 hc x0 x1 x2 xs (ix2 r l) : EReal)
    = ∑ k : Fin 1024, xs (ix2 r k) * x2 (ix2 k l) := by
  unfold out0_B_3
  frame_out
  unfold_payloads
  pointwise

theorem row_lt (t : Fin cfg0.N) (r : Fin 1024) : t.val / 14 * 1024 + r.val < 16384 := by
  have h : t.val < 224 := t.isLt
  omega

theorem col_lt (t : Fin cfg0.N) (l : Fin 1024) : t.val % 14 * 1024 + l.val < 14336 := by omega

/-- The row of the arrays that is row `r` of a grid point's block. -/
def row (t : Fin cfg0.N) (r : Fin 1024) : Fin 16384 := ⟨t.val / 14 * 1024 + r.val, row_lt t r⟩
/-- The column of the arrays that is column `l` of a grid point's block. -/
def col (t : Fin cfg0.N) (l : Fin 1024) : Fin 14336 := ⟨t.val % 14 * 1024 + l.val, col_lt t l⟩

/-- The arguments as the kernel finds them. -/
theorem x_host : (V m c main_v4 (ix2 n k) : EReal) = Ax m c (ix3 (bat n) (pos n) k) := by
  entry_read
  pointwise
  try rfl

theorem g_host : (V m c main_v5 (ix2 0 k) : EReal) = Ag m c (ix1 k) := by
  entry_read
  pointwise
  try rfl

theorem w_host (j : Fin 14336) : (V m c main_v3 (ix2 k j) : EReal) = Aw m c (ix2 k (wcol j)) := by
  entry_read
  pointwise
  unfold wcol
  split
  · rfl
  · next h => exact congrArg (fun i => Aw m c (ix2 k i)) (Fin.ext (by show 10368 + (j.val - 10240) = j.val + 128; omega))

variable (t : Fin cfg0.N)

theorem emb3 : (win0_3.blk t).view.emb (ix2 r l) = ix2 (row t r) (col t l) := by
  funext a
  fin_cases a <;> refine Fin.ext ?_ <;> blk_simp [idx3]
  · rfl
  · rfl

theorem iblk0_eq : iblk m c 0 t (ix2 r k) = Ax m c (ix3 (bat (row t r)) (pos (row t r)) k) := by
  refine Eq.trans ?_ (x_host m c _ _)
  blk_simp [iblk]
  refine congrArg (V m c main_v4) ?_
  funext a
  fin_cases a <;> refine Fin.ext ?_ <;> blk_simp [idx0]
  · rfl
  · rfl

theorem iblk1_eq : iblk m c 1 t (ix2 0 k) = Ag m c (ix1 k) := by
  refine Eq.trans ?_ (g_host m c _)
  blk_simp [iblk]
  refine congrArg (V m c main_v5) ?_
  funext a
  fin_cases a <;> refine Fin.ext ?_ <;> blk_simp [idx1]

theorem iblk2_eq : iblk m c 2 t (ix2 k l) = Aw m c (ix2 k (wcol (col t l))) := by
  refine Eq.trans ?_ (w_host m c _ _)
  blk_simp [iblk]
  refine congrArg (V m c main_v3) ?_
  funext a
  fin_cases a <;> refine Fin.ext ?_ <;> blk_simp [idx2]
  · rfl
  · rfl

/-- What the kept rows are after a grid point: the point's rows, normalised. -/
theorem kept (N : ℕ) : ∀ hN : N < cfg0.N, ∀ r k : Fin 1024, ((outsAt0 m c N hN).2 (ix2 r k) : EReal)
    = Nrm (Ax m c) (Ag m c) (bat (row ⟨N, hN⟩ r)) (pos (row ⟨N, hN⟩ r)) k := by
  induction N with
  | zero =>
    intro hN r k
    rw [outsAt0_A m c ⟨0, hN⟩ (Nat.zero_mod _)]
    dsimp only
    rw [keep_A]
    simp only [iblk0_eq, iblk1_eq]
    rfl
  | succ N ih =>
    intro hN r k
    by_cases h0 : (N + 1) % 14 = 0
    · rw [outsAt0_A m c ⟨N + 1, hN⟩ h0]
      dsimp only
      rw [keep_A]
      simp only [iblk0_eq, iblk1_eq]
      rfl
    · rw [outsAt0_B m c ⟨N + 1, hN⟩ h0]
      have e : row ⟨N + 1, hN⟩ r = row ⟨N, Nat.lt_of_succ_lt hN⟩ r :=
        Fin.ext (congrArg (· * 1024 + r.val) (show (N + 1) / 14 = N / 14 by omega))
      rw [e]
      dsimp only
      unfold sout0_B_0
      exact ih _ r k

/-- The result, number by number. -/
def G : (⟨2, ![16384, 14336]⟩ : Shape).Idx → EReal := fun y => Out (Ax m c) (Ag m c) (Aw m c) (bat (y 0)) (pos (y 0)) (y 1)

/-- What the body leaves at a grid point is the result's block there. -/
theorem outs_eq : ((outsAt0 m c t.val t.isLt).1 (ix2 r l) : EReal) = G m c (ix2 (row t r) (col t l)) := by
  show _ = ∑ k : Fin 1024, Nrm (Ax m c) (Ag m c) (bat (row t r)) (pos (row t r)) k * Aw m c (ix2 k (wcol (col t l)))
  simp only [← kept m c t.val t.isLt]
  by_cases h0 : t.val % 14 = 0
  · rw [outsAt0_A m c t h0]
    dsimp only
    rw [out_A]
    simp only [iblk2_eq]
  · have e : ∀ k : Fin 1024, (outsAt0 m c t.val t.isLt).2 (ix2 r k) = (outsAt0 m c (t.val - 1) (Nat.lt_of_le_of_lt (Nat.sub_le _ _) t.isLt)).2 (ix2 r k) := by
      intro k
      rw [outsAt0_B m c t h0]
      dsimp only
      unfold sout0_B_0
      rfl
    simp only [e]
    rw [outsAt0_B m c t h0]
    dsimp only
    rw [out_B]
    simp only [iblk2_eq]

theorem outs_blk (y : S1024x1024.Idx) : ((outsAt0 m c t.val t.isLt).1 y : EReal) = G m c ((win0_3.blk t).view.emb y) := by
  obtain ⟨r, l, rfl⟩ : ∃ r l : Fin 1024, y = ix2 r l := ⟨y 0, y 1, eq_ix2 y⟩
  rw [emb3]
  exact outs_eq m c r l t

/-- The kernel's result array after the run. -/
theorem arr : (dats m 0 c).arrAt 3 cfg0.N = G m c := by
  refine (dats m 0 c).arrAt_eq_of_covers 3 _ (by decide +kernel) fun t hf y => ?_
  blk_simp
  rw [after0_3]
  exact outs_blk m c t y

end Cert.ProjIdeal.Projecting

end
-- ==== Proof.Proj.Ref.lean ====
/- The reference's projection of the normalised input, number by number. -/
module

public import proofs.«01_k».proof.Proof.Gen.ProjRefIdeal.Read
public import proofs.«01_k».proof.Proof.Proj.Spec

@[expose] public section

set_option maxRecDepth 16384

noncomputable section

namespace Cert.ProjRefIdeal.Projecting

open Idealize.ShloMosaic Cert.ProjRefIdeal Cert.ProjRefIdeal.Gen Cert.ProjRefIdeal.Read Cert.Projecting

variable (x0 : Act) (x1 : PerFeat) (x2 : Wt) (b : Fin 2) (t : Fin 8192)

theorem inv_eq : val_main_v7 (F := Ideal) x0 (ix3 b t 0) = inv x0 b t := by
  simp only [val_main_v7, val_main_v6, val_main_v5, val_main_v4, val_main_v3, val_main_v2, val_main_v1, val_main_v0, val_main_cst, val_main_cst_0, val_main_cst_1]
  pointwise
  rfl

theorem nrm (k : Fin 1024) : val_main_v12 (F := Ideal) x0 x1 (ix3 b t k) = Nrm x0 x1 b t k := by
  unfold Nrm
  rw [← inv_eq]
  simp only [val_main_v12, val_main_v11, val_main_v10, val_main_v9, val_main_v8]
  generalize val_main_v7 (F := Ideal) x0 = r
  pointwise
  try rfl

theorem prj (j : Fin 14464) : val_main_v13 (F := Ideal) x0 x1 x2 (ix3 b t j) = ∑ k : Fin 1024, Nrm x0 x1 b t k * x2 (ix2 k j) := by
  simp only [← nrm]
  unfold val_main_v13
  generalize val_main_v12 (F := Ideal) x0 x1 = h
  pointwise
  try rfl

/-- The reference's result, number by number. -/
theorem result (n : Fin 16384) (j : Fin 14336) : val_main_v17 (F := Ideal) x0 x1 x2 (ix2 n j)
    = Out x0 x1 x2 ⟨n.val / 8192, bat_lt n⟩ ⟨n.val % 8192, pos_lt n⟩ j := by
  unfold Out
  rw [← prj]
  unfold val_main_v17 val_main_v16 val_main_v15 val_main_v14
  generalize val_main_v13 (F := Ideal) x0 x1 x2 = p
  pointwise
  unfold wcol
  split
  · rfl
  · next h => exact congrArg (fun i => p (ix3 _ _ i)) (Fin.ext (by show 10368 + (j.val - 10240) = j.val + 128; omega))

end Cert.ProjRefIdeal.Projecting

end
-- ==== Proof.Merge.Spec.lean ====
/- The merge of the layer's three branches, number by number, over the extended reals. -/
module

public import Idealize.ShloMosaic.Lib.Pointwise
public import Idealize.ShloMosaic.Lib.IdealHost

@[expose] public section

noncomputable section

namespace Cert.Merging

open Idealize.ShloMosaic

/-- One number per batch, position and feature. -/
abbrev Act := (⟨3, ![2, 8192, 1024]⟩ : Shape).Idx → EReal
/-- The projected input. -/
abbrev Prj := (⟨3, ![2, 8192, 14336]⟩ : Shape).Idx → EReal
/-- A square matrix of weights. -/
abbrev Wt := (⟨2, ![1024, 1024]⟩ : Shape).Idx → EReal

/-- The sigmoid. -/
def sg (x : EReal) : EReal := Ideal.div 1 (1 + Ideal.exp (-x))

theorem gate0_lt (e : Fin 1024) : 11264 + e.val < 14336 := by omega
theorem gate1_lt (e : Fin 1024) : 12288 + e.val < 14336 := by omega
theorem gate2_lt (e : Fin 1024) : 13312 + e.val < 14336 := by omega

/-- A branch's output, projected. -/
def Pr (o : Act) (w : Wt) (b : Fin 2) (t : Fin 8192) (e : Fin 1024) : EReal := ∑ k : Fin 1024, o (ix3 b t k) * w (ix2 k e)

/-- The three branches, each projected and under its gate, summed. -/
def Mix (oa ob oc : Act) (u : Prj) (wa wb wc : Wt) (b : Fin 2) (t : Fin 8192) (e : Fin 1024) : EReal :=
  sg (u (ix3 b t ⟨11264 + e.val, gate0_lt e⟩)) * Pr oa wa b t e + sg (u (ix3 b t ⟨12288 + e.val, gate1_lt e⟩)) * Pr ob wb b t e
    + sg (u (ix3 b t ⟨13312 + e.val, gate2_lt e⟩)) * Pr oc wc b t e

/-- One number of the layer's output: the input plus the projected sum of the branches. -/
def Out (x oa ob oc : Act) (u : Prj) (wa wb wc wo : Wt) (b : Fin 2) (t : Fin 8192) (d : Fin 1024) : EReal :=
  x (ix3 b t d) + ∑ e : Fin 1024, Mix oa ob oc u wa wb wc b t e * wo (ix2 e d)

theorem bat_lt (n : Fin 16384) : n.val / 8192 < 2 := by omega
theorem pos_lt (n : Fin 16384) : n.val % 8192 < 8192 := by omega

end Cert.Merging

end
-- ==== Proof.Merge.Host.lean ====
/- The kernel's merge: what every grid point leaves, and with it the result. -/
module

public import proofs.«01_k».proof.Proof.Gen.MergeIdeal.Value
public import proofs.«01_k».proof.Proof.Merge.Spec
public import Idealize.ShloMosaic.Lib.Pipeline.ValueKit
public import Idealize.ShloMosaic.Lib.Claim

@[expose] public section

set_option maxRecDepth 16384

noncomputable section

namespace Cert.MergeIdeal.Merging

open Idealize.ShloMosaic Idealize.ShloMosaic.TcCoe Idealize.ShloMosaic.Tactic Idealize.SL.Sem
open Cert.MergeIdeal.Gen Cert.Merging

variable (m : (ℓ : Loc nD τ sig) → Buf (Elt Idealize.ShloMosaic.Ideal) ℓ) (c : Dev nD)

/-- The arguments, as arrays. -/
abbrev Ax : Act := m ((c : Thread nD τ).loc main_arg0)
abbrev Aa : Act := m ((c : Thread nD τ).loc main_arg1)
abbrev Ab : Act := m ((c : Thread nD τ).loc main_arg2)
abbrev Ac : Act := m ((c : Thread nD τ).loc main_arg3)
abbrev Au : Prj := m ((c : Thread nD τ).loc main_arg4)
abbrev Wa : Wt := m ((c : Thread nD τ).loc main_arg5)
abbrev Wb : Wt := m ((c : Thread nD τ).loc main_arg6)
abbrev Wc : Wt := m ((c : Thread nD τ).loc main_arg7)
abbrev Wo : Wt := m ((c : Thread nD τ).loc main_arg8)

/-- The batch of a row. -/
def bat (n : Fin 16384) : Fin 2 := ⟨n.val / 8192, bat_lt n⟩
/-- The position of a row. -/
def pos (n : Fin 16384) : Fin 8192 := ⟨n.val % 8192, pos_lt n⟩

variable (n : Fin 16384) (k d : Fin 1024)

/-- The arguments as the kernel finds them. -/
theorem x_host : (V m c main_v0 (ix2 n k) : EReal) = Ax m c (ix3 (bat n) (pos n) k) := by
  entry_read
  pointwise
  try rfl

theorem a_host : (V m c main_v2 (ix2 n k) : EReal) = Aa m c (ix3 (bat n) (pos n) k) := by
  entry_read
  pointwise
  try rfl

theorem b_host : (V m c main_v4 (ix2 n k) : EReal) = Ab m c (ix3 (bat n) (pos n) k) := by
  entry_read
  pointwise
  try rfl

theorem c_host : (V m c main_v6 (ix2 n k) : EReal) = Ac m c (ix3 (bat n) (pos n) k) := by
  entry_read
  pointwise
  try rfl

theorem u_host (j : Fin 14336) : (V m c main_v7 (ix2 n j) : EReal) = Au m c (ix3 (bat n) (pos n) j) := by
  entry_read
  pointwise
  try rfl

theorem wa_host : (V m c main_v8 (ix2 k d) : EReal) = Wa m c (ix2 k d) := by
  entry_read
  pointwise
  try rfl

theorem wb_host : (V m c main_v9 (ix2 k d) : EReal) = Wb m c (ix2 k d) := by
  entry_read
  pointwise
  try rfl

theorem wc_host : (V m c main_v10 (ix2 k d) : EReal) = Wc m c (ix2 k d) := by
  entry_read
  pointwise
  try rfl

theorem wo_host : (V m c main_v11 (ix2 k d) : EReal) = Wo m c (ix2 k d) := by
  entry_read
  pointwise
  try rfl

theorem idx0 (t : Fin cfg0.N) : win0_0.index t = ![t.val, 0] := by revert t; decide +kernel
theorem idx1 (t : Fin cfg0.N) : win0_1.index t = ![t.val, 0] := by revert t; decide +kernel
theorem idx2 (t : Fin cfg0.N) : win0_2.index t = ![t.val, 0] := by revert t; decide +kernel
theorem idx3 (t : Fin cfg0.N) : win0_3.index t = ![t.val, 0] := by revert t; decide +kernel
theorem idx4 (t : Fin cfg0.N) : win0_4.index t = ![t.val, 11] := by revert t; decide +kernel
theorem idx5 (t : Fin cfg0.N) : win0_5.index t = ![t.val, 12] := by revert t; decide +kernel
theorem idx6 (t : Fin cfg0.N) : win0_6.index t = ![t.val, 13] := by revert t; decide +kernel
theorem idx7 (t : Fin cfg0.N) : win0_7.index t = ![0, 0] := by revert t; decide +kernel
theorem idx8 (t : Fin cfg0.N) : win0_8.index t = ![0, 0] := by revert t; decide +kernel
theorem idx9 (t : Fin cfg0.N) : win0_9.index t = ![0, 0] := by revert t; decide +kernel
theorem idx10 (t : Fin cfg0.N) : win0_10.index t = ![0, 0] := by revert t; decide +kernel
theorem idx11 (t : Fin cfg0.N) : win0_11.index t = ![t.val, 0] := by revert t; decide +kernel

theorem row_lt (t : Fin cfg0.N) (r : Fin 512) : t.val * 512 + r.val < 16384 := by
  have h : t.val < 32 := t.isLt
  omega

/-- The row of the arrays that is row `r` of a grid point's block. -/
def row (t : Fin cfg0.N) (r : Fin 512) : Fin 16384 := ⟨t.val * 512 + r.val, row_lt t r⟩

variable (t : Fin cfg0.N) (r : Fin 512)

theorem emb11 : (win0_11.blk t).view.emb (ix2 r k) = ix2 (row t r) k := by
  funext a
  fin_cases a <;> refine Fin.ext ?_ <;> blk_simp [idx11]
  · rfl
  · rfl

theorem iblk0_eq : iblk m c 0 t (ix2 r k) = Ax m c (ix3 (bat (row t r)) (pos (row t r)) k) := by
  refine Eq.trans ?_ (x_host m c _ _)
  blk_simp [iblk]
  refine congrArg (V m c main_v0) ?_
  funext a
  fin_cases a <;> refine Fin.ext ?_ <;> blk_simp [idx0]
  · rfl
  · rfl

theorem iblk1_eq : iblk m c 1 t (ix2 r k) = Aa m c (ix3 (bat (row t r)) (pos (row t r)) k) := by
  refine Eq.trans ?_ (a_host m c _ _)
  blk_simp [iblk]
  refine congrArg (V m c main_v2) ?_
  funext a
  fin_cases a <;> refine Fin.ext ?_ <;> blk_simp [idx1]
  · rfl
  · rfl

theorem iblk2_eq : iblk m c 2 t (ix2 r k) = Ab m c (ix3 (bat (row t r)) (pos (row t r)) k) := by
  refine Eq.trans ?_ (b_host m c _ _)
  blk_simp [iblk]
  refine congrArg (V m c main_v4) ?_
  funext a
  fin_cases a <;> refine Fin.ext ?_ <;> blk_simp [idx2]
  · rfl
  · rfl

theorem iblk3_eq : iblk m c 3 t (ix2 r k) = Ac m c (ix3 (bat (row t r)) (pos (row t r)) k) := by
  refine Eq.trans ?_ (c_host m c _ _)
  blk_simp [iblk]
  refine congrArg (V m c main_v6) ?_
  funext a
  fin_cases a <;> refine Fin.ext ?_ <;> blk_simp [idx3]
  · rfl
  · rfl

theorem iblk4_eq : iblk m c 4 t (ix2 r k) = Au m c (ix3 (bat (row t r)) (pos (row t r)) ⟨11264 + k.val, gate0_lt k⟩) := by
  refine Eq.trans ?_ (u_host m c _ _)
  blk_simp [iblk]
  refine congrArg (V m c main_v7) ?_
  funext a
  fin_cases a <;> refine Fin.ext ?_ <;> blk_simp [idx4]
  · rfl
  · rfl

theorem iblk5_eq : iblk m c 5 t (ix2 r k) = Au m c (ix3 (bat (row t r)) (pos (row t r)) ⟨12288 + k.val, gate1_lt k⟩) := by
  refine Eq.trans ?_ (u_host m c _ _)
  blk_simp [iblk]
  refine congrArg (V m c main_v7) ?_
  funext a
  fin_cases a <;> refine Fin.ext ?_ <;> blk_simp [idx5]
  · rfl
  · rfl

theorem iblk6_eq : iblk m c 6 t (ix2 r k) = Au m c (ix3 (bat (row t r)) (pos (row t r)) ⟨13312 + k.val, gate2_lt k⟩) := by
  refine Eq.trans ?_ (u_host m c _ _)
  blk_simp [iblk]
  refine congrArg (V m c main_v7) ?_
  funext a
  fin_cases a <;> refine Fin.ext ?_ <;> blk_simp [idx6]
  · rfl
  · rfl

theorem iblk7_eq : iblk m c 7 t (ix2 k d) = Wa m c (ix2 k d) := by
  refine Eq.trans ?_ (wa_host m c _ _)
  blk_simp [iblk]
  refine congrArg (V m c main_v8) ?_
  funext a
  fin_cases a <;> refine Fin.ext ?_ <;> blk_simp [idx7]

theorem iblk8_eq : iblk m c 8 t (ix2 k d) = Wb m c (ix2 k d) := by
  refine Eq.trans ?_ (wb_host m c _ _)
  blk_simp [iblk]
  refine congrArg (V m c main_v9) ?_
  funext a
  fin_cases a <;> refine Fin.ext ?_ <;> blk_simp [idx8]

theorem iblk9_eq : iblk m c 9 t (ix2 k d) = Wc m c (ix2 k d) := by
  refine Eq.trans ?_ (wc_host m c _ _)
  blk_simp [iblk]
  refine congrArg (V m c main_v10) ?_
  funext a
  fin_cases a <;> refine Fin.ext ?_ <;> blk_simp [idx9]

theorem iblk10_eq : iblk m c 10 t (ix2 k d) = Wo m c (ix2 k d) := by
  refine Eq.trans ?_ (wo_host m c _ _)
  blk_simp [iblk]
  refine congrArg (V m c main_v11) ?_
  funext a
  fin_cases a <;> refine Fin.ext ?_ <;> blk_simp [idx10]

/-- What the body leaves, of the blocks it reads: the gated and projected branches summed, projected, added to the input. -/
theorem body (x0 : FVec Idealize.ShloMosaic.Ideal S512x1024 .f32) (x1 x2 x3 : FVec Idealize.ShloMosaic.Ideal S512x1024 .bf16) (x4 x5 x6 : FVec Idealize.ShloMosaic.Ideal S512x1024 .f32)
    (x7 x8 x9 x10 : FVec Idealize.ShloMosaic.Ideal S1024x1024 .bf16) : (out0_11 (F := Idealize.ShloMosaic.Ideal) x0 x1 x2 x3 x4 x5 x6 x7 x8 x9 x10 (ix2 r d) : EReal)
    = x0 (ix2 r d) + ∑ e : Fin 1024, (sg (x4 (ix2 r e)) * ∑ k : Fin 1024, x1 (ix2 r k) * x7 (ix2 k e)
        + sg (x5 (ix2 r e)) * ∑ k : Fin 1024, x2 (ix2 r k) * x8 (ix2 k e)
        + sg (x6 (ix2 r e)) * ∑ k : Fin 1024, x3 (ix2 r k) * x9 (ix2 k e)) * x10 (ix2 e d) := by
  unfold out0_11
  frame_out
  unfold_payloads
  pointwise
  simp only [zero_sub]
  rfl

/-- The result, number by number. -/
def G : (⟨2, ![16384, 1024]⟩ : Shape).Idx → EReal := fun y =>
  Out (Ax m c) (Aa m c) (Ab m c) (Ac m c) (Au m c) (Wa m c) (Wb m c) (Wc m c) (Wo m c) (bat (y 0)) (pos (y 0)) (y 1)

theorem outs_blk (y : S512x1024.Idx) :
    (out0_11 (F := Idealize.ShloMosaic.Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y : EReal)
      = G m c ((win0_11.blk t).view.emb y) := by
  obtain ⟨r, d, rfl⟩ : ∃ (r : Fin 512) (d : Fin 1024), y = ix2 r d := ⟨y 0, y 1, eq_ix2 y⟩
  rw [emb11]
  refine (body (r := r) (d := d) _ _ _ _ _ _ _ _ _ _ _).trans ?_
  simp only [iblk0_eq, iblk1_eq, iblk2_eq, iblk3_eq, iblk4_eq, iblk5_eq, iblk6_eq, iblk7_eq, iblk8_eq, iblk9_eq, iblk10_eq]
  rfl

/-- The kernel's result array after the run. -/
theorem arr : (dats m 0 c).arrAt 11 cfg0.N = G m c := by
  refine (dats m 0 c).arrAt_eq_of_covers 11 _ (by decide +kernel) fun t hf y => ?_
  blk_simp
  rw [after0_11]
  exact outs_blk m c t y

end Cert.MergeIdeal.Merging

end
-- ==== Proof.Merge.Ref.lean ====
/- The reference's merge, number by number. -/
module

public import proofs.«01_k».proof.Proof.Gen.MergeRefIdeal.Read
public import proofs.«01_k».proof.Proof.Merge.Spec

@[expose] public section

set_option maxRecDepth 16384

noncomputable section

namespace Cert.MergeRefIdeal.Merging

open Idealize.ShloMosaic Cert.MergeRefIdeal Cert.MergeRefIdeal.Gen Cert.MergeRefIdeal.Read Cert.Merging

variable (x0 x1 x2 x3 : Act) (x4 : Prj) (x5 x6 x7 x8 : Wt) (b : Fin 2) (t : Fin 8192) (e d : Fin 1024)

theorem col1 (e : ℕ) : 11264 + (1024 + e) = 12288 + e := by omega
theorem col2 (e : ℕ) : 11264 + (2048 + e) = 13312 + e := by omega

theorem gate0 : val_main_v12 (F := Ideal) x4 (ix3 b t e) = sg (x4 (ix3 b t ⟨11264 + e.val, gate0_lt e⟩)) := by
  simp only [val_main_v12, val_main_v11, val_main_v10, val_main_v9, val_main_v8, val_main_v7, val_main_v6, val_main_v5, val_main_v4, val_main_v3, val_main_cst, val_main_cst_0]
  pointwise
  rfl

theorem gate1 : val_main_v15 (F := Ideal) x4 (ix3 b t e) = sg (x4 (ix3 b t ⟨12288 + e.val, gate1_lt e⟩)) := by
  simp only [val_main_v15, val_main_v14, val_main_v10, val_main_v9, val_main_v8, val_main_v7, val_main_v6, val_main_v5, val_main_v4, val_main_v3, val_main_cst, val_main_cst_0]
  pointwise
  exact congrArg (fun i => sg (x4 (ix3 b t i))) (Fin.ext (col1 e.val))

theorem gate2 : val_main_v19 (F := Ideal) x4 (ix3 b t e) = sg (x4 (ix3 b t ⟨13312 + e.val, gate2_lt e⟩)) := by
  simp only [val_main_v19, val_main_v18, val_main_v10, val_main_v9, val_main_v8, val_main_v7, val_main_v6, val_main_v5, val_main_v4, val_main_v3, val_main_cst, val_main_cst_0]
  pointwise
  exact congrArg (fun i => sg (x4 (ix3 b t i))) (Fin.ext (col2 e.val))

theorem proj0 : val_main_v0 (F := Ideal) x1 x5 (ix3 b t e) = Pr x1 x5 b t e := by
  unfold val_main_v0
  pointwise
  rfl

theorem proj1 : val_main_v1 (F := Ideal) x2 x6 (ix3 b t e) = Pr x2 x6 b t e := by
  unfold val_main_v1
  pointwise
  rfl

theorem proj2 : val_main_v2 (F := Ideal) x3 x7 (ix3 b t e) = Pr x3 x7 b t e := by
  unfold val_main_v2
  pointwise
  rfl

theorem mix : val_main_v21 (F := Ideal) x1 x2 x3 x4 x5 x6 x7 (ix3 b t e) = Mix x1 x2 x3 x4 x5 x6 x7 b t e := by
  rw [val_main_v21_apply, val_main_v20_apply, val_main_v17_apply, val_main_v16_apply, val_main_v13_apply, gate0, gate1, gate2, proj0, proj1, proj2]
  rfl

/-- The reference's result, number by number. -/
theorem result (n : Fin 16384) : val_main_v24 (F := Ideal) x0 x1 x2 x3 x4 x5 x6 x7 x8 (ix2 n d)
    = Out x0 x1 x2 x3 x4 x5 x6 x7 x8 ⟨n.val / 8192, bat_lt n⟩ ⟨n.val % 8192, pos_lt n⟩ d := by
  unfold Out
  simp only [← mix]
  unfold val_main_v24 val_main_v23 val_main_v22
  generalize val_main_v21 (F := Ideal) x1 x2 x3 x4 x5 x6 x7 = g
  pointwise
  try rfl

end Cert.MergeRefIdeal.Merging

end
-- ==== Proof.Lora.Spec.lean ====
/- The low-rank columns of the projected input: which columns of the weights give them. -/
module

public import proofs.«01_k».proof.Proof.Proj.Spec

@[expose] public section

namespace Cert.LowRank

theorem wcol_lt (j : Fin 128) : 10240 + j.val < 14464 := by omega

/-- The weights' column that gives column `j` of the result. -/
def wcol (j : Fin 128) : Fin 14464 := ⟨10240 + j.val, wcol_lt j⟩

end Cert.LowRank

end
-- ==== Proof.Lora.Host.lean ====
/- The kernel's low-rank columns of the projected input: what every grid point leaves, and with it the result. -/
module

public import proofs.«01_k».proof.Proof.Gen.LoraIdeal.Value
public import proofs.«01_k».proof.Proof.Lora.Spec
public import Idealize.ShloMosaic.Lib.Pipeline.ValueKit
public import Idealize.ShloMosaic.Lib.Claim

@[expose] public section

set_option maxRecDepth 16384

noncomputable section

namespace Cert.LoraIdeal.LowRank

open Idealize.ShloMosaic Idealize.ShloMosaic.TcCoe Idealize.ShloMosaic.Tactic Idealize.SL.Sem
open Cert.LoraIdeal.Gen Cert.Projecting

variable (m : (ℓ : Loc nD τ sig) → Buf (Elt Idealize.ShloMosaic.Ideal) ℓ) (c : Dev nD)

/-- The arguments, as arrays. -/
abbrev Ax : Act := m ((c : Thread nD τ).loc main_arg0)
abbrev Ag : PerFeat := m ((c : Thread nD τ).loc main_arg1)
abbrev Aw : Wt := m ((c : Thread nD τ).loc main_arg2)

/-- The batch of a row. -/
def bat (n : Fin 16384) : Fin 2 := ⟨n.val / 8192, bat_lt n⟩
/-- The position of a row. -/
def pos (n : Fin 16384) : Fin 8192 := ⟨n.val % 8192, pos_lt n⟩

variable (n : Fin 16384) (k : Fin 1024)

theorem idx0 (t : Fin cfg0.N) : win0_0.index t = ![t.val, 0] := by revert t; decide +kernel
theorem idx1 (t : Fin cfg0.N) : win0_1.index t = ![0, 0] := by revert t; decide +kernel
theorem idx2 (t : Fin cfg0.N) : win0_2.index t = ![0, 0] := by revert t; decide +kernel
theorem idx3 (t : Fin cfg0.N) : win0_3.index t = ![t.val, 0] := by revert t; decide +kernel

variable (i : grid0.Coords) (arg2 : Memref sig .tc .vmem S1024x1024 .f32) (harg2 : arg2.IsWhole) (arg3 : Memref sig .tc .vmem S1x1024 .f32) (harg3 : arg3.IsWhole)
  (arg4 : Memref sig .tc .vmem S1024x128 .bf16) (harg4 : arg4.IsWhole) (arg5 : Memref sig .tc .vmem S1024x128 .f32) (harg5 : arg5.IsWhole)
  (arg6 : Memref sig .tc .vmem S1024x1024 .bf16) (harg6 : arg6.IsWhole)
  (x0 : FVec Idealize.ShloMosaic.Ideal S1024x1024 .f32) (x1 : FVec Idealize.ShloMosaic.Ideal S1x1024 .f32) (x2 : FVec Idealize.ShloMosaic.Ideal S1024x128 .bf16)
  (r : Fin 1024) (l : Fin 128)

/-- A row of a block, normalised. -/
theorem normed : (k0_pay1 (F := Idealize.ShloMosaic.Ideal) x0 x1 (ix2 r k) : EReal)
    = x0 (ix2 r k) * Idealize.ShloMosaic.Ideal.rsqrt (Idealize.ShloMosaic.Ideal.div (∑ k : Fin 1024, x0 (ix2 r k) * x0 (ix2 r k)) (Idealize.ShloMosaic.Ideal.ofBits .f32 0x44800000#32) + Idealize.ShloMosaic.Ideal.ofBits .f32 0x358637BD#32)
      * x1 (ix2 0 k) := by
  unfold_payloads
  pointwise

/-- What the body leaves: the normalised rows times the weights. -/
theorem body (hc : cond0_0 i) : (out0_A_3 (F := Idealize.ShloMosaic.Ideal) c i arg2 harg2 arg3 harg3 arg4 harg4 arg5 harg5 arg6 harg6 hc x0 x1 x2 (ix2 r l) : EReal)
    = ∑ k : Fin 1024, k0_pay1 (F := Idealize.ShloMosaic.Ideal) x0 x1 (ix2 r k) * x2 (ix2 k l) := by
  unfold out0_A_3
  frame_out
  generalize k0_pay1 (F := Idealize.ShloMosaic.Ideal) x0 x1 = h
  unfold_payloads
  pointwise

theorem row_lt (t : Fin cfg0.N) (r : Fin 1024) : t.val * 1024 + r.val < 16384 := by
  have h : t.val < 16 := t.isLt
  omega

/-- The row of the arrays that is row `r` of a grid point's block. -/
def row (t : Fin cfg0.N) (r : Fin 1024) : Fin 16384 := ⟨t.val * 1024 + r.val, row_lt t r⟩

/-- The arguments as the kernel finds them. -/
theorem x_host : (V m c main_v2 (ix2 n k) : EReal) = Ax m c (ix3 (bat n) (pos n) k) := by
  entry_read
  pointwise
  try rfl

theorem g_host : (V m c main_v3 (ix2 0 k) : EReal) = Ag m c (ix1 k) := by
  entry_read
  pointwise
  try rfl

theorem w_host : (V m c main_v1 (ix2 k l) : EReal) = Aw m c (ix2 k (Cert.LowRank.wcol l)) := by
  entry_read
  pointwise
  try rfl

variable (t : Fin cfg0.N)

theorem emb3 : (win0_3.blk t).view.emb (ix2 r l) = ix2 (row t r) l := by
  funext a
  fin_cases a <;> refine Fin.ext ?_ <;> blk_simp [idx3]
  · rfl
  · rfl

theorem iblk0_eq : iblk m c 0 t (ix2 r k) = Ax m c (ix3 (bat (row t r)) (pos (row t r)) k) := by
  refine Eq.trans ?_ (x_host m c _ _)
  blk_simp [iblk]
  refine congrArg (V m c main_v2) ?_
  funext a
  fin_cases a <;> refine Fin.ext ?_ <;> blk_simp [idx0]
  · rfl
  · rfl

theorem iblk1_eq : iblk m c 1 t (ix2 0 k) = Ag m c (ix1 k) := by
  refine Eq.trans ?_ (g_host m c _)
  blk_simp [iblk]
  refine congrArg (V m c main_v3) ?_
  funext a
  fin_cases a <;> refine Fin.ext ?_ <;> blk_simp [idx1]

theorem iblk2_eq : iblk m c 2 t (ix2 k l) = Aw m c (ix2 k (Cert.LowRank.wcol l)) := by
  refine Eq.trans ?_ (w_host m c _ _)
  blk_simp [iblk]
  refine congrArg (V m c main_v1) ?_
  funext a
  fin_cases a <;> refine Fin.ext ?_ <;> blk_simp [idx2]

/-- The result, number by number. -/
def G : (⟨2, ![16384, 128]⟩ : Shape).Idx → EReal :=
  fun y => ∑ k : Fin 1024, Nrm (Ax m c) (Ag m c) (bat (y 0)) (pos (y 0)) k * Aw m c (ix2 k (Cert.LowRank.wcol (y 1)))

/-- What the body leaves at a grid point is the result's block there. -/
theorem outs_blk (y : S1024x128.Idx) : (outsAt0 m c t y : EReal) = G m c ((win0_3.blk t).view.emb y) := by
  obtain ⟨r, l, rfl⟩ : ∃ (r : Fin 1024) (l : Fin 128), y = ix2 r l := ⟨y 0, y 1, eq_ix2 y⟩
  rw [emb3]
  unfold outsAt0
  rw [body]
  simp only [normed, iblk0_eq, iblk1_eq, iblk2_eq]
  rfl

/-- The kernel's result array after the run. -/
theorem arr : (dats m 0 c).arrAt 3 cfg0.N = G m c := by
  refine (dats m 0 c).arrAt_eq_of_covers 3 _ (by decide +kernel) fun t hf y => ?_
  blk_simp
  rw [after0_3]
  exact outs_blk m c t y

end Cert.LoraIdeal.LowRank

end
-- ==== Proof.Lora.Ref.lean ====
/- The reference's low-rank columns of the projected input, number by number. -/
module

public import proofs.«01_k».proof.Proof.Gen.LoraRefIdeal.Read
public import proofs.«01_k».proof.Proof.Lora.Spec

@[expose] public section

set_option maxRecDepth 16384

noncomputable section

namespace Cert.LoraRefIdeal.LowRank

open Idealize.ShloMosaic Cert.LoraRefIdeal Cert.LoraRefIdeal.Gen Cert.LoraRefIdeal.Read Cert.Projecting

variable (x0 : Act) (x1 : PerFeat) (x2 : Wt) (b : Fin 2) (t : Fin 8192)

theorem inv_eq : val_main_v7 (F := Ideal) x0 (ix3 b t 0) = inv x0 b t := by
  simp only [val_main_v7, val_main_v6, val_main_v5, val_main_v4, val_main_v3, val_main_v2, val_main_v1, val_main_v0, val_main_cst, val_main_cst_0, val_main_cst_1]
  pointwise
  rfl

theorem nrm (k : Fin 1024) : val_main_v12 (F := Ideal) x0 x1 (ix3 b t k) = Nrm x0 x1 b t k := by
  unfold Nrm
  rw [← inv_eq]
  simp only [val_main_v12, val_main_v11, val_main_v10, val_main_v9, val_main_v8]
  generalize val_main_v7 (F := Ideal) x0 = r
  pointwise
  try rfl

theorem prj (j : Fin 14464) : val_main_v13 (F := Ideal) x0 x1 x2 (ix3 b t j) = ∑ k : Fin 1024, Nrm x0 x1 b t k * x2 (ix2 k j) := by
  simp only [← nrm]
  unfold val_main_v13
  generalize val_main_v12 (F := Ideal) x0 x1 = h
  pointwise
  try rfl

/-- The reference's result, number by number. -/
theorem result (n : Fin 16384) (j : Fin 128) : val_main_v15 (F := Ideal) x0 x1 x2 (ix2 n j)
    = ∑ k : Fin 1024, Nrm x0 x1 ⟨n.val / 8192, bat_lt n⟩ ⟨n.val % 8192, pos_lt n⟩ k * x2 (ix2 k (Cert.LowRank.wcol j)) := by
  rw [← prj]
  unfold val_main_v15 val_main_v14
  generalize val_main_v13 (F := Ideal) x0 x1 x2 = p
  pointwise
  try rfl

end Cert.LoraRefIdeal.LowRank

end
-- ==== Proof.Heads.Spec.lean ====
/- What the call after the input projection makes of it, number by number, over the extended reals: the gated values,
   and the queries and keys normalised head by head. -/
module

public import Idealize.ShloMosaic.Lib.Pointwise
public import Idealize.ShloMosaic.Lib.IdealHost

@[expose] public section

noncomputable section

namespace Cert.Heading

open Idealize.ShloMosaic

/-- The projected input, one number per row and column. -/
abbrev Prj := (⟨2, ![16384, 14336]⟩ : Shape).Idx → EReal
/-- A head's gains, one number per feature. -/
abbrev Gain := (⟨1, ![64]⟩ : Shape).Idx → EReal

theorem ucol_lt {o : ℕ} (h : o + 1024 ≤ 14336) (l : Fin 1024) : o + l.val < 14336 := by omega
theorem head_lt (l : Fin 1024) : l.val / 64 < 16 := by omega
theorem feat_lt (l : Fin 1024) : l.val % 64 < 64 := by omega
theorem lane_lt (a : Fin 16) (d : Fin 64) : a.val * 64 + d.val < 1024 := by omega

/-- The columns are cut into blocks of 1024: column `l` of the block that starts at `o`. -/
def ucol (o : ℕ) (h : o + 1024 ≤ 14336) (l : Fin 1024) : Fin 14336 := ⟨o + l.val, ucol_lt h l⟩
/-- The head of a lane. -/
def head (l : Fin 1024) : Fin 16 := ⟨l.val / 64, head_lt l⟩
/-- The feature of a lane, in its head. -/
def feat (l : Fin 1024) : Fin 64 := ⟨l.val % 64, feat_lt l⟩
/-- The lane of a head's feature. -/
def lane (a : Fin 16) (d : Fin 64) : Fin 1024 := ⟨a.val * 64 + d.val, lane_lt a d⟩

/-- The sigmoid. -/
def sg (x : EReal) : EReal := Ideal.div 1 (1 + Ideal.exp (-x))

/-- The gated values. -/
def Glu (u : Prj) (n : Fin 16384) (l : Fin 1024) : EReal := u (ix2 n (ucol 0 (by decide) l)) * sg (u (ix2 n (ucol 1024 (by decide) l)))

/-- What a head is scaled by, of its 1024 lanes `x`: the reciprocal root of its mean square. -/
def scl (x : Fin 1024 → EReal) (a : Fin 16) : EReal :=
  Ideal.rsqrt (Ideal.div (∑ d : Fin 64, x (lane a d) * x (lane a d)) (Ideal.ofBits .f32 0x42800000#32) + Ideal.ofBits .f32 0x358637BD#32)

/-- The lanes `x`, normalised head by head and scaled by the gains. -/
def Nrm (x : Fin 1024 → EReal) (g : Gain) (l : Fin 1024) : EReal := x l * scl x (head l) * g (ix1 (feat l))

/-- The queries' and the keys' lanes of a row. -/
def Lq (u : Prj) (n : Fin 16384) (l : Fin 1024) : EReal := u (ix2 n (ucol 3072 (by decide) l))
def Lk (u : Prj) (n : Fin 16384) (l : Fin 1024) : EReal := u (ix2 n (ucol 4096 (by decide) l))

/-- The scale of the scores, for weights that are powers of two: an eighth over the logarithm of two. -/
def qscale : EReal := ((1 / 8 * (Real.log 2)⁻¹ : ℝ) : EReal)

theorem lane_head (l : Fin 1024) : lane (head l) (feat l) = l := Fin.ext (by show l.val / 64 * 64 + l.val % 64 = l.val; omega)

theorem mul_eighth (x : EReal) : Ideal.div (x * Ideal.ofBits .f32 0x3E000000#32) (Ideal.log (Ideal.ofBits .f32 0x40000000#32)) = x * qscale := by
  have h8 : Ideal.ofBits .f32 0x3E000000#32 = ((1 / 8 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  rw [h8, h2, Ideal.log_coe, if_neg (by norm_num), Ideal.div_coe (Real.log_pos (by norm_num)).ne', mul_assoc, ← EReal.coe_mul, one_div (Real.log 2)]
  rfl

theorem mul_64th (x : EReal) : x * Ideal.ofBits .f32 0x3C800000#32 = Ideal.div x (Ideal.ofBits .f32 0x42800000#32) := by
  have h : Ideal.ofBits .f32 0x3C800000#32 = ((1 / 64 : ℝ) : EReal) := by
    simp [Ideal.ofBits, Ideal.ieee]
    rw [← EReal.coe_mul]
    norm_num
  have h' : Ideal.ofBits .f32 0x42800000#32 = ((64 : ℝ) : EReal) := by
    simp [Ideal.ofBits, Ideal.ieee]
    rw [← EReal.coe_mul]
    norm_num
  rw [h, h', Ideal.div_coe (by norm_num)]

/-- A sum over all lanes that keeps one head's is the sum over that head's features. -/
theorem seg_sum (x : Fin 1024 → EReal) (l : Fin 1024) :
    ∑ j : Fin 1024, x j * (if head j = head l then 1 else 0) = ∑ d : Fin 64, x (lane (head l) d) := by
  simp only [mul_ite, mul_one, mul_zero]
  rw [← Finset.sum_filter]
  refine Finset.sum_nbij' feat (lane (head l)) ?_ ?_ ?_ ?_ ?_
  · exact fun _ _ => Finset.mem_univ _
  · intro d _
    refine Finset.mem_filter.mpr ⟨Finset.mem_univ _, Fin.ext ?_⟩
    show ((head l).val * 64 + d.val) / 64 = (head l).val
    omega
  · intro j hj
    rw [← (Finset.mem_filter.mp hj).2]
    exact lane_head j
  · intro d _
    refine Fin.ext ?_
    show ((head l).val * 64 + d.val) % 64 = d.val
    omega
  · intro j hj
    rw [← (Finset.mem_filter.mp hj).2, lane_head]

/-- What is left of a finite number's square when the square is taken off it. -/
theorem rest_zero {x : EReal} (hx : x ≠ ⊤) (hx' : x ≠ ⊥) : x * x - x * x = 0 := by
  lift x to ℝ using ⟨hx, hx'⟩
  rw [← EReal.coe_mul, ← EReal.coe_sub, sub_self, EReal.coe_zero]

end Cert.Heading

end
-- ==== Proof.Heads.Host.lean ====
/- The kernel's gated values, queries, keys and values: what every grid point leaves, and with it the results. -/
module

public import proofs.«01_k».proof.Proof.Gen.HeadsIdeal.Value
public import proofs.«01_k».proof.Proof.Heads.Spec
public import Idealize.ShloMosaic.Lib.Pipeline.ValueKit
public import Idealize.ShloMosaic.Lib.Claim

@[expose] public section

set_option maxRecDepth 16384

noncomputable section

namespace Cert.HeadsIdeal.Heading

open Idealize.ShloMosaic Idealize.ShloMosaic.TcCoe Idealize.ShloMosaic.Tactic Idealize.SL.Sem
open Cert.HeadsIdeal.Gen Cert.Heading

variable (m : (ℓ : Loc nD τ sig) → Buf (Elt Idealize.ShloMosaic.Ideal) ℓ) (c : Dev nD)

/-- The arguments, as arrays. -/
abbrev Au : Prj := m ((c : Thread nD τ).loc main_arg0)
abbrev Aq : Gain := m ((c : Thread nD τ).loc main_arg1)
abbrev Ak : Gain := m ((c : Thread nD τ).loc main_arg2)

theorem idx0 (t : Fin cfg0.N) : win0_0.index t = ![t.val, 0] := by revert t; decide +kernel
theorem idx1 (t : Fin cfg0.N) : win0_1.index t = ![t.val, 1] := by revert t; decide +kernel
theorem idx2 (t : Fin cfg0.N) : win0_2.index t = ![t.val, 3] := by revert t; decide +kernel
theorem idx3 (t : Fin cfg0.N) : win0_3.index t = ![t.val, 4] := by revert t; decide +kernel
theorem idx4 (t : Fin cfg0.N) : win0_4.index t = ![t.val, 5] := by revert t; decide +kernel
theorem idx5 (t : Fin cfg0.N) : win0_5.index t = ![0, 0] := by revert t; decide +kernel
theorem idx6 (t : Fin cfg0.N) : win0_6.index t = ![0, 0] := by revert t; decide +kernel
theorem idx7 (t : Fin cfg0.N) : win0_7.index t = ![0, 0] := by revert t; decide +kernel
theorem idx8 (t : Fin cfg0.N) : win0_8.index t = ![t.val, 0] := by revert t; decide +kernel
theorem idx9 (t : Fin cfg0.N) : win0_9.index t = ![t.val, 0] := by revert t; decide +kernel
theorem idx10 (t : Fin cfg0.N) : win0_10.index t = ![t.val, 0] := by revert t; decide +kernel
theorem idx11 (t : Fin cfg0.N) : win0_11.index t = ![t.val, 0] := by revert t; decide +kernel
theorem idx12 (t : Fin cfg0.N) : win0_12.index t = ![t.val, 0] := by revert t; decide +kernel

variable (x0 x1 x2 x3 x4 : FVec Idealize.ShloMosaic.Ideal S512x1024 .f32) (x5 x6 : FVec Idealize.ShloMosaic.Ideal S1x1024 .f32)
  (x7 : FVec Idealize.ShloMosaic.Ideal S1024x1024 .bf16) (r : Fin 512) (l j : Fin 1024)

/-- The gated values the body leaves. -/
theorem body_glu : (out0_8 (F := Idealize.ShloMosaic.Ideal) x0 x1 x2 x3 x4 x5 x6 x7 (ix2 r l) : EReal) = x0 (ix2 r l) * sg (x1 (ix2 r l)) := by
  unfold out0_8
  frame_out
  unfold_payloads
  pointwise
  simp only [zero_sub]
  rfl

/-- The values the body leaves. -/
theorem body_value : (out0_12 (F := Idealize.ShloMosaic.Ideal) x0 x1 x2 x3 x4 x5 x6 x7 (ix2 r l) : EReal) = x4 (ix2 r l) := by
  unfold out0_12
  frame_out
  unfold_payloads
  pointwise
  try rfl

/-- The head's sum of squares as the body forms it, of finite numbers. -/
theorem squares (x : Fin 1024 → EReal) (hx : ∀ j, x j ≠ ⊤ ∧ x j ≠ ⊥) (l : Fin 1024) :
    (∑ j : Fin 1024, x j * x j * (if head j = head l then (1 : EReal) else 0)) + (∑ j : Fin 1024, (x j * x j - x j * x j) * (if head j = head l then (1 : EReal) else 0))
      = ∑ d : Fin 64, x (lane (head l) d) * x (lane (head l) d) := by
  simp only [rest_zero (hx _).1 (hx _).2, zero_mul, Finset.sum_const_zero, add_zero]
  exact seg_sum (fun j => x j * x j) l

variable (h7 : ∀ j l : Fin 1024, x7 (ix2 j l) = if head j = head l then (1 : EReal) else 0)

include h7 in
/-- The queries the body leaves. -/
theorem body_query (h : ∀ j, (x2 (ix2 r j) : EReal) ≠ ⊤ ∧ (x2 (ix2 r j) : EReal) ≠ ⊥) : (out0_9 (F := Idealize.ShloMosaic.Ideal) x0 x1 x2 x3 x4 x5 x6 x7 (ix2 r l) : EReal)
    = x2 (ix2 r l) * scl (fun j => x2 (ix2 r j)) (head l) * x5 (ix2 0 l) * qscale := by
  unfold scl
  rw [← squares _ h, ← mul_64th]
  unfold out0_9
  frame_out
  unfold_payloads
  pointwise
  simp only [h7]
  rfl

include h7 in
/-- The keys the body leaves. -/
theorem body_key (h : ∀ j, (x3 (ix2 r j) : EReal) ≠ ⊤ ∧ (x3 (ix2 r j) : EReal) ≠ ⊥) : (out0_10 (F := Idealize.ShloMosaic.Ideal) x0 x1 x2 x3 x4 x5 x6 x7 (ix2 r l) : EReal)
    = x3 (ix2 r l) * scl (fun j => x3 (ix2 r j)) (head l) * x6 (ix2 0 l) := by
  unfold scl
  rw [← squares _ h, ← mul_64th]
  unfold out0_10 k0_pay8
  frame_out
  unfold_payloads
  pointwise
  simp only [h7]
  try rfl

/-- The shortened keys the body leaves are its keys. -/
theorem body_short : (out0_11 (F := Idealize.ShloMosaic.Ideal) x0 x1 x2 x3 x4 x5 x6 x7 (ix2 r l) : EReal)
    = out0_10 (F := Idealize.ShloMosaic.Ideal) x0 x1 x2 x3 x4 x5 x6 x7 (ix2 r l) := by
  unfold out0_11 out0_10
  frame_out
  unfold k0_pay3
  rfl

theorem row_lt (t : Fin cfg0.N) (r : Fin 512) : t.val * 512 + r.val < 16384 := by
  have h : t.val < 32 := t.isLt
  omega

/-- The row of the arrays that is row `r` of a grid point's block. -/
def row (t : Fin cfg0.N) (r : Fin 512) : Fin 16384 := ⟨t.val * 512 + r.val, row_lt t r⟩

/-- The arguments as the kernel finds them. -/
theorem u_host (n : Fin 16384) (i : Fin 14336) : (V m c main_arg0 (ix2 n i) : EReal) = Au m c (ix2 n i) := by
  rw [V_main_arg0]

theorem gq_host : (V m c main_v12 (ix2 0 l) : EReal) = Aq m c (ix1 (feat l)) := by
  unfold V
  simp only [List.flatten_cons, List.flatten_nil, List.append_nil, hostOps0, hostOps0_1, hostOps0_2, List.cons_append, List.nil_append]
  entry_read
  pointwise
  try rfl

theorem gk_host : (V m c main_v16 (ix2 0 l) : EReal) = Ak m c (ix1 (feat l)) := by
  unfold V
  simp only [List.flatten_cons, List.flatten_nil, List.append_nil, hostOps0, hostOps0_1, hostOps0_2, List.cons_append, List.nil_append]
  entry_read
  pointwise
  try rfl

theorem eq_bit : ∀ a b : Fin 16, IntOp.cmpi .eq (IntOp.addi (BitVec.ofNat 32 a.val) 0#32) (BitVec.ofNat 32 b.val) = if a = b then 1#1 else 0#1 := by
  decide +kernel

/-- The matrix that sums a head's lanes, as the kernel finds it. -/
theorem seg_host : (V m c main_v8 (ix2 j l) : EReal) = if head j = head l then (1 : EReal) else 0 := by
  unfold V
  simp only [List.flatten_cons, List.flatten_nil, List.append_nil, hostOps0, hostOps0_1, hostOps0_2, List.cons_append, List.nil_append]
  entry_read
  pointwise
  simp only [StableHlo.TRef.ofBuf_toBuf, StableHlo.TRef.toBuf, StableHlo.TRef.ofBuf, cast_eq]
  pointwise
  refine (congrArg (FloatOps.uitofp (F := Idealize.ShloMosaic.Ideal) FTy.f32) (eq_bit (head j) (head l))).trans ?_
  by_cases h : head j = head l
  · rw [if_pos h, if_pos h]
    show (((1#1 : BitVec 1).toNat : ℝ) : EReal) = 1
    simp
  · rw [if_neg h, if_neg h]
    show (((0#1 : BitVec 1).toNat : ℝ) : EReal) = 0
    simp

variable (t : Fin cfg0.N)

theorem emb8 : (win0_8.blk t).view.emb (ix2 r l) = ix2 (row t r) l := by
  funext a
  fin_cases a <;> refine Fin.ext ?_ <;> blk_simp [idx8]
  · rfl
  · rfl

theorem emb9 : (win0_9.blk t).view.emb (ix2 r l) = ix2 (row t r) l := by
  funext a
  fin_cases a <;> refine Fin.ext ?_ <;> blk_simp [idx9]
  · rfl
  · rfl

theorem emb10 : (win0_10.blk t).view.emb (ix2 r l) = ix2 (row t r) l := by
  funext a
  fin_cases a <;> refine Fin.ext ?_ <;> blk_simp [idx10]
  · rfl
  · rfl

theorem emb11 : (win0_11.blk t).view.emb (ix2 r l) = ix2 (row t r) l := by
  funext a
  fin_cases a <;> refine Fin.ext ?_ <;> blk_simp [idx11]
  · rfl
  · rfl

theorem emb12 : (win0_12.blk t).view.emb (ix2 r l) = ix2 (row t r) l := by
  funext a
  fin_cases a <;> refine Fin.ext ?_ <;> blk_simp [idx12]
  · rfl
  · rfl

theorem iblk0_eq : iblk m c 0 t (ix2 r l) = Au m c (ix2 (row t r) (ucol 0 (by decide) l)) := by
  refine Eq.trans ?_ (u_host m c _ _)
  blk_simp [iblk]
  refine congrArg (V m c main_arg0) ?_
  funext a
  fin_cases a <;> refine Fin.ext ?_ <;> blk_simp [idx0]
  · rfl
  · exact (Nat.zero_add _).symm

theorem iblk1_eq : iblk m c 1 t (ix2 r l) = Au m c (ix2 (row t r) (ucol 1024 (by decide) l)) := by
  refine Eq.trans ?_ (u_host m c _ _)
  blk_simp [iblk]
  refine congrArg (V m c main_arg0) ?_
  funext a
  fin_cases a <;> refine Fin.ext ?_ <;> blk_simp [idx1]
  · rfl
  · rfl

theorem iblk2_eq : iblk m c 2 t (ix2 r l) = Lq (Au m c) (row t r) l := by
  refine Eq.trans ?_ (u_host m c _ _)
  blk_simp [iblk]
  refine congrArg (V m c main_arg0) ?_
  funext a
  fin_cases a <;> refine Fin.ext ?_ <;> blk_simp [idx2]
  · rfl
  · rfl

theorem iblk3_eq : iblk m c 3 t (ix2 r l) = Lk (Au m c) (row t r) l := by
  refine Eq.trans ?_ (u_host m c _ _)
  blk_simp [iblk]
  refine congrArg (V m c main_arg0) ?_
  funext a
  fin_cases a <;> refine Fin.ext ?_ <;> blk_simp [idx3]
  · rfl
  · rfl

theorem iblk4_eq : iblk m c 4 t (ix2 r l) = Au m c (ix2 (row t r) (ucol 5120 (by decide) l)) := by
  refine Eq.trans ?_ (u_host m c _ _)
  blk_simp [iblk]
  refine congrArg (V m c main_arg0) ?_
  funext a
  fin_cases a <;> refine Fin.ext ?_ <;> blk_simp [idx4]
  · rfl
  · rfl

theorem iblk5_eq : iblk m c 5 t (ix2 0 l) = Aq m c (ix1 (feat l)) := by
  refine Eq.trans ?_ (gq_host m c _)
  blk_simp [iblk]
  refine congrArg (V m c main_v12) ?_
  funext a
  fin_cases a <;> refine Fin.ext ?_ <;> blk_simp [idx5]

theorem iblk6_eq : iblk m c 6 t (ix2 0 l) = Ak m c (ix1 (feat l)) := by
  refine Eq.trans ?_ (gk_host m c _)
  blk_simp [iblk]
  refine congrArg (V m c main_v16) ?_
  funext a
  fin_cases a <;> refine Fin.ext ?_ <;> blk_simp [idx6]

theorem iblk7_eq : iblk m c 7 t (ix2 j l) = if head j = head l then (1 : EReal) else 0 := by
  refine Eq.trans ?_ (seg_host m c _ _)
  blk_simp [iblk]
  refine congrArg (V m c main_v8) ?_
  funext a
  fin_cases a <;> refine Fin.ext ?_ <;> blk_simp [idx7]

/-- The results' indices. -/
abbrev Ix := (⟨2, ![16384, 1024]⟩ : Shape).Idx

/-- The results, number by number. -/
def G8 : Ix → EReal := fun y => Glu (Au m c) (y 0) (y 1)
def G9 : Ix → EReal := fun y => Nrm (Lq (Au m c) (y 0)) (Aq m c) (y 1) * qscale
def G10 : Ix → EReal := fun y => Nrm (Lk (Au m c) (y 0)) (Ak m c) (y 1)
def G12 : Ix → EReal := fun y => Au m c (ix2 (y 0) (ucol 5120 (by decide) (y 1)))

/-- The queries and the keys are finite. -/
def Fin_heads : Prop := ∀ (n : Fin 16384) (l : Fin 1024), (Lq (Au m c) n l ≠ ⊤ ∧ Lq (Au m c) n l ≠ ⊥) ∧ (Lk (Au m c) n l ≠ ⊤ ∧ Lk (Au m c) n l ≠ ⊥)

theorem arr8 : (dats m 0 c).arrAt 8 cfg0.N = G8 m c := by
  refine (dats m 0 c).arrAt_eq_of_covers 8 _ (by decide +kernel) fun t hf y => ?_
  blk_simp
  rw [after0_8]
  obtain ⟨r, l, rfl⟩ : ∃ (r : Fin 512) (l : Fin 1024), y = ix2 r l := ⟨y 0, y 1, eq_ix2 y⟩
  rw [emb8]
  refine (body_glu _ _ _ _ _ _ _ _ r l).trans ?_
  rw [iblk0_eq, iblk1_eq]
  rfl

theorem arr12 : (dats m 0 c).arrAt 12 cfg0.N = G12 m c := by
  refine (dats m 0 c).arrAt_eq_of_covers 12 _ (by decide +kernel) fun t hf y => ?_
  blk_simp
  rw [after0_12]
  obtain ⟨r, l, rfl⟩ : ∃ (r : Fin 512) (l : Fin 1024), y = ix2 r l := ⟨y 0, y 1, eq_ix2 y⟩
  rw [emb12]
  refine (body_value _ _ _ _ _ _ _ _ r l).trans ?_
  rw [iblk4_eq]
  rfl

variable (hf : Fin_heads m c)

include hf

theorem arr9 : (dats m 0 c).arrAt 9 cfg0.N = G9 m c := by
  refine (dats m 0 c).arrAt_eq_of_covers 9 _ (by decide +kernel) fun t _ y => ?_
  blk_simp
  rw [after0_9]
  obtain ⟨r, l, rfl⟩ : ∃ (r : Fin 512) (l : Fin 1024), y = ix2 r l := ⟨y 0, y 1, eq_ix2 y⟩
  rw [emb9]
  refine (body_query _ _ _ _ _ _ _ _ r l (fun j l => iblk7_eq m c l j t) (fun j => ?_)).trans ?_
  · rw [iblk2_eq]
    exact (hf _ j).1
  · simp only [iblk2_eq, iblk5_eq]
    rfl

theorem key_block (t : Fin cfg0.N) : (out0_10 (F := Idealize.ShloMosaic.Ideal) (iblk m c 0 t) (iblk m c 1 t) (iblk m c 2 t) (iblk m c 3 t) (iblk m c 4 t) (iblk m c 5 t) (iblk m c 6 t) (iblk m c 7 t) (ix2 r l) : EReal)
    = G10 m c (ix2 (row t r) l) := by
  refine (body_key _ _ _ _ _ _ _ _ r l (fun j l => iblk7_eq m c l j t) (fun j => ?_)).trans ?_
  · rw [iblk3_eq]
    exact (hf _ j).2
  · simp only [iblk3_eq, iblk6_eq]
    rfl

theorem arr10 : (dats m 0 c).arrAt 10 cfg0.N = G10 m c := by
  refine (dats m 0 c).arrAt_eq_of_covers 10 _ (by decide +kernel) fun t _ y => ?_
  blk_simp
  rw [after0_10]
  obtain ⟨r, l, rfl⟩ : ∃ (r : Fin 512) (l : Fin 1024), y = ix2 r l := ⟨y 0, y 1, eq_ix2 y⟩
  rw [emb10]
  exact key_block m c r l hf t

theorem arr11 : (dats m 0 c).arrAt 11 cfg0.N = G10 m c := by
  refine (dats m 0 c).arrAt_eq_of_covers 11 _ (by decide +kernel) fun t _ y => ?_
  blk_simp
  rw [after0_11]
  obtain ⟨r, l, rfl⟩ : ∃ (r : Fin 512) (l : Fin 1024), y = ix2 r l := ⟨y 0, y 1, eq_ix2 y⟩
  rw [emb11]
  exact (body_short _ _ _ _ _ _ _ _ r l).trans (key_block m c r l hf t)

end Cert.HeadsIdeal.Heading

end
-- ==== Proof.Heads.Pre.lean ====
/- What the condition on the arguments says: the queries and the keys are finite. -/
module

public import proofs.«01_k».proof.Defs
public import proofs.«01_k».proof.Proof.Gen.Pre_finite_heads
public import proofs.«01_k».proof.Proof.Heads.Host

@[expose] public section

noncomputable section

namespace Cert.Heading

open Idealize.ShloMosaic

theorem column_lt (k : Fin 2048) : 3072 + k.val < 14336 := by omega

theorem ideal_infinity : Idealize.ShloMosaic.Ideal.ofBits .f32 0x7F800000#32 = ⊤ := by simp [Idealize.ShloMosaic.Ideal.ofBits, Idealize.ShloMosaic.Ideal.ieee]

theorem pre_at [Cert.Pre_finite_heads.Facts] (u : Prj) (g₁ g₂ : Gain) (h : Cert.Pre_finite_heads.fn (F := Idealize.ShloMosaic.Ideal) u g₁ g₂ = fun _ => 1#1)
    (n : Fin 16384) (k : Fin 2048) : u (ix2 n ⟨3072 + k.val, column_lt k⟩) ≠ ⊤ ∧ u (ix2 n ⟨3072 + k.val, column_lt k⟩) ≠ ⊥ := by
  have e := congrFun h (ix2 n k)
  unfold Cert.Pre_finite_heads.fn at e
  pointwise at e
  rw [ideal_infinity] at e
  have hlt : max (u (ix2 n ⟨3072 + k.val, column_lt k⟩)) (-u (ix2 n ⟨3072 + k.val, column_lt k⟩)) < ⊤ := by
    by_contra hn
    rw [show FloatOps.absf (F := Idealize.ShloMosaic.Ideal) (φ := .f32) (u (ix2 n ⟨3072 + k.val, column_lt k⟩))
      = max (u (ix2 n ⟨3072 + k.val, column_lt k⟩)) (-u (ix2 n ⟨3072 + k.val, column_lt k⟩)) from rfl, decide_eq_false hn] at e
    exact absurd e (by decide)
  refine ⟨(lt_of_le_of_lt (le_max_left _ _) hlt).ne, fun hb => ?_⟩
  exact absurd ((lt_of_le_of_lt (le_max_right _ _) hlt).ne) (by rw [hb]; simp)

theorem query_column_lt (l : Fin 1024) : l.val < 2048 := by omega
theorem key_column_lt (l : Fin 1024) : 1024 + l.val < 2048 := by omega

end Cert.Heading

namespace Cert.HeadsIdeal.Heading

open Idealize.ShloMosaic Cert.Heading

theorem finite [Cert.Pre_finite_heads.Facts] (m : (ℓ : Loc nD τ sig) → Buf (Elt Idealize.ShloMosaic.Ideal) ℓ) (h : Cert.Pre_HeadsIdeal_finite_heads m) (c : Dev nD) : Fin_heads m c := by
  intro n l
  refine ⟨pre_at _ _ _ (h c) n ⟨l.val, query_column_lt l⟩, ?_⟩
  have e := pre_at _ _ _ (h c) n ⟨1024 + l.val, key_column_lt l⟩
  have hk : (⟨3072 + (1024 + l.val), column_lt ⟨1024 + l.val, key_column_lt l⟩⟩ : Fin 14336) = ucol 4096 (by decide) l := Fin.ext (by show 3072 + (1024 + l.val) = 4096 + l.val; omega)
  unfold Lk
  rw [← hk]
  exact e

end Cert.HeadsIdeal.Heading

end
-- ==== Proof.Heads.Ref.lean ====
/- The reference's gated values, queries, keys and values, number by number. -/
module

public import proofs.«01_k».proof.Proof.Gen.HeadsRefIdeal.Read
public import proofs.«01_k».proof.Proof.Heads.Spec

@[expose] public section

set_option maxRecDepth 16384

noncomputable section

namespace Cert.HeadsRefIdeal.Heading

open Idealize.ShloMosaic Cert.HeadsRefIdeal Cert.HeadsRefIdeal.Gen Cert.HeadsRefIdeal.Read Cert.Heading

variable (x0 : Prj) (x1 x2 : Gain) (n : Fin 16384) (l : Fin 1024) (a : Fin 16) (d : Fin 64)

theorem glu : val_main_v47 (F := Ideal) x0 (ix2 n l) = Glu x0 n l := by
  simp only [val_main_v47, val_main_v46, val_main_v45, val_main_v44, val_main_v43, val_main_v42, val_main_v41, val_main_v1, val_main_v0, val_main_cst_7, val_main_cst_8]
  pointwise
  unfold Glu
  rw [show (ucol 0 (by decide) l : Fin 14336) = ⟨l.val, _⟩ from Fin.ext (Nat.zero_add _)]
  rfl

theorem lanes_q : val_main_v5 (F := Ideal) x0 (ix3 n a d) = Lq x0 n (lane a d) := by
  simp only [val_main_v5, val_main_v2]
  pointwise
  try rfl

theorem lanes_k : val_main_v6 (F := Ideal) x0 (ix3 n a d) = Lk x0 n (lane a d) := by
  simp only [val_main_v6, val_main_v3]
  pointwise
  try rfl

theorem inv_q : val_main_v14 (F := Ideal) x0 (ix3 n a 0) = scl (Lq x0 n) a := by
  unfold scl
  simp only [← lanes_q]
  simp only [val_main_v14, val_main_v13, val_main_v12, val_main_v11, val_main_v10, val_main_v9, val_main_v8, val_main_v7, val_main_cst, val_main_cst_0, val_main_cst_1]
  generalize val_main_v5 (F := Ideal) x0 = q
  pointwise
  try rfl

theorem inv_k : val_main_v27 (F := Ideal) x0 (ix3 n a 0) = scl (Lk x0 n) a := by
  unfold scl
  simp only [← lanes_k]
  simp only [val_main_v27, val_main_v26, val_main_v25, val_main_v24, val_main_v23, val_main_v22, val_main_v21, val_main_v20, val_main_cst_2, val_main_cst_3, val_main_cst_4]
  generalize val_main_v6 (F := Ideal) x0 = q
  pointwise
  try rfl

theorem nrm_q : val_main_v33 (F := Ideal) x0 x1 (ix2 n l) = Nrm (Lq x0 n) x1 l := by
  unfold Nrm
  rw [← inv_q, ← congrArg (Lq x0 n) (lane_head l), ← lanes_q]
  simp only [val_main_v33, val_main_v19, val_main_v18, val_main_v17, val_main_v16, val_main_v15]
  generalize val_main_v14 (F := Ideal) x0 = r
  generalize val_main_v5 (F := Ideal) x0 = q
  pointwise
  try rfl

theorem key : val_main_v34 (F := Ideal) x0 x2 (ix2 n l) = Nrm (Lk x0 n) x2 l := by
  unfold Nrm
  rw [← inv_k, ← congrArg (Lk x0 n) (lane_head l), ← lanes_k]
  simp only [val_main_v34, val_main_v32, val_main_v31, val_main_v30, val_main_v29, val_main_v28]
  generalize val_main_v27 (F := Ideal) x0 = r
  generalize val_main_v6 (F := Ideal) x0 = q
  pointwise
  try rfl

theorem query : val_main_v48 (F := Ideal) x0 x1 (ix2 n l) = Nrm (Lq x0 n) x1 l * qscale := by
  rw [← nrm_q, ← mul_eighth]
  simp only [val_main_v48, val_main_v40, val_main_v39, val_main_v38, val_main_v37, val_main_v36, val_main_v35, val_main_cst_5, val_main_cst_6]
  generalize val_main_v33 (F := Ideal) x0 x1 = q
  pointwise
  try rfl

theorem key_short : val_main_v49 (F := Ideal) x0 x2 (ix2 n l) = Nrm (Lk x0 n) x2 l := by
  rw [← key]
  unfold val_main_v49
  generalize val_main_v34 (F := Ideal) x0 x2 = q
  pointwise
  try rfl

theorem value : val_main_v50 (F := Ideal) x0 (ix2 n l) = x0 (ix2 n (ucol 5120 (by decide) l)) := by
  simp only [val_main_v50, val_main_v4]
  pointwise
  try rfl

end Cert.HeadsRefIdeal.Heading

end
-- ==== Proof.Conv.Spec.lean ====
/- What the convolution makes of the gated values, number by number, over the extended reals. -/
module

public import Idealize.ShloMosaic.Lib.Pointwise
public import Idealize.ShloMosaic.Lib.IdealHost

@[expose] public section

noncomputable section

namespace Cert.Convolving

open Idealize.ShloMosaic

/-- The gated values of this call, and the last ones of the call before. -/
abbrev Vals := (⟨3, ![2, 8192, 1024]⟩ : Shape).Idx → EReal
abbrev Prev := (⟨3, ![2, 30, 1024]⟩ : Shape).Idx → EReal
/-- The projected input. -/
abbrev Prj := (⟨3, ![2, 8192, 14336]⟩ : Shape).Idx → EReal
/-- The taps, one row per tap; and one number per feature. -/
abbrev Taps := (⟨2, ![31, 1024]⟩ : Shape).Idx → EReal
abbrev PerFeat := (⟨1, ![1024]⟩ : Shape).Idx → EReal

/-- The sum of the first so many of a sequence, added from the left. -/
def acc (f : ℕ → EReal) : ℕ → EReal
  | 0 => 0
  | n + 1 => acc f n + f n

theorem acc_congr {f g : ℕ → EReal} : ∀ n : ℕ, (∀ k < n, f k = g k) → acc f n = acc g n
  | 0, _ => rfl
  | n + 1, h => by
    unfold acc
    rw [acc_congr n fun k hk => h k (Nat.lt_succ_of_lt hk), h n (Nat.lt_succ_self n)]

/-- The values in a row: the thirty of the call before, then this call's. -/
def line (p : Prev) (g : Vals) (b : Fin 2) (s : ℕ) (l : Fin 1024) : EReal :=
  if h : s < 30 then p (ix3 b ⟨s, h⟩ l) else if h' : s - 30 < 8192 then g (ix3 b ⟨s - 30, h'⟩ l) else 0

/-- The tap, by its number. -/
def tap (w : Taps) (k : ℕ) (l : Fin 1024) : EReal := if h : k < 31 then w (ix2 ⟨k, h⟩ l) else 0

/-- The sigmoid linear unit. -/
def silu (x : EReal) : EReal := x * Ideal.div 1 (1 + Ideal.exp (-x))

/-- The mean over the features. -/
def mean (x : Fin 1024 → EReal) : EReal := Ideal.div (∑ k : Fin 1024, x k) (Ideal.ofBits .f32 0x44800000#32)

/-- What is left of a row once its mean is taken off. -/
def dev (x : Fin 1024 → EReal) (l : Fin 1024) : EReal := x l - mean x

/-- The reciprocal of a row's standard deviation. -/
def rstd (x : Fin 1024 → EReal) : EReal := Ideal.rsqrt (mean (fun k => dev x k * dev x k) + Ideal.ofBits .f32 0x3727C5AC#32)

/-- A row with mean zero and variance one, then with a gain and a shift per feature, then gated. -/
def gated (x gain shift z : Fin 1024 → EReal) (l : Fin 1024) : EReal := silu (dev x l * rstd x * gain l + shift l) * silu (z l)

end Cert.Convolving

end
-- ==== Proof.Conv.Host.lean ====
/- The kernel's convolution: what every grid point leaves, and with it the result. -/
module

public import proofs.«01_k».proof.Proof.Gen.ConvIdeal.Value
public import proofs.«01_k».proof.Proof.Conv.Spec
public import Idealize.ShloMosaic.Lib.Pipeline.ValueKit
public import Idealize.ShloMosaic.Lib.Claim

@[expose] public section

set_option maxRecDepth 16384

noncomputable section

namespace Cert.ConvIdeal.Convolving

open Idealize.ShloMosaic Idealize.ShloMosaic.TcCoe Idealize.ShloMosaic.Tactic Idealize.SL.Sem
open Cert.ConvIdeal.Gen Cert.Convolving

section Body

variable (x0 x2 : FVec Idealize.ShloMosaic.Ideal S1x128x1024 .f32) (x1 : FVec Idealize.ShloMosaic.Ideal S1x32x1024 .f32) (x3 : FVec Idealize.ShloMosaic.Ideal S32x1024 .f32)
  (x4 x5 x6 : FVec Idealize.ShloMosaic.Ideal S1x1024 .f32) (r : Fin 128) (l : Fin 1024)

/-- The stage: the 32 rows ahead of the block, then the block's own. -/
def stage (s : ℕ) (l : Fin 1024) : EReal :=
  if h : s < 32 then x1 (ix3 0 ⟨s, h⟩ l) else if h' : s - 32 < 128 then x0 (ix3 0 ⟨s - 32, h'⟩ l) else 0

/-- The 128 rows of the stage from a row on. -/
def rows (o : ℕ) : FVec Idealize.ShloMosaic.Ideal S128x1024 .f32 := fun y => stage x0 x1 (o + (y 0).val) (y 1)

/-- A tap, as a row. -/
def wrow (o : ℕ) : FVec Idealize.ShloMosaic.Ideal S1x1024 .f32 := fun y => if h : o < 32 then x3 (ix2 ⟨o, h⟩ (y 1)) else 0

theorem pay2_eq (s : Fin 32) : (k0_pay2 (F := Idealize.ShloMosaic.Ideal) x1 (ix2 s l) : EReal) = x1 (ix3 0 s l) := by
  unfold_payloads
  pointwise

theorem pay3_eq : (k0_pay3 (F := Idealize.ShloMosaic.Ideal) x0 (ix2 r l) : EReal) = x0 (ix3 0 r l) := by
  unfold_payloads
  pointwise

/-- The rectangles the two stores fill. -/
abbrev upper : Rect S160x1024 := Rect.unit ![0, 0] ![32, 1024] inb_S160x1024_S32x1024_0_0
abbrev lower : Rect S160x1024 := Rect.unit ![32, 0] ![128, 1024] inb_S160x1024_S128x1024_32_0

theorem upper_lt (s : Fin 32) : s.val < 160 := by omega
theorem lower_lt : 32 + r.val < 160 := by omega

theorem upper_emb (s : Fin 32) : upper.emb (show upper.shape.Idx from ix2 s l) = ix2 ⟨s.val, upper_lt s⟩ l := by
  funext a
  refine Fin.ext ?_
  rw [Rect.emb_apply]
  revert a
  refine Fin.forall_fin_two.2 ⟨?_, ?_⟩
  · show 0 + 1 * s.val = s.val
    omega
  · show 0 + 1 * l.val = l.val
    omega

theorem lower_emb : lower.emb (show lower.shape.Idx from ix2 r l) = ix2 ⟨32 + r.val, lower_lt r⟩ l := by
  funext a
  refine Fin.ext ?_
  rw [Rect.emb_apply]
  revert a
  refine Fin.forall_fin_two.2 ⟨?_, ?_⟩
  · show 32 + 1 * r.val = 32 + r.val
    omega
  · show 0 + 1 * l.val = l.val
    omega

/-- The two stores. -/
abbrev stores : List (View.Piece (Elt Idealize.ShloMosaic.Ideal) S160x1024 .f32) :=
  [⟨lower, k0_pay3 (F := Idealize.ShloMosaic.Ideal) x0⟩, ⟨upper, k0_pay2 (F := Idealize.ShloMosaic.Ideal) x1⟩]

theorem staged_upper (s : Fin 32) : View.canon (stores x0 x1) (ix2 ⟨s.val, upper_lt s⟩ l) = x1 (ix3 0 s l) := by
  unfold stores
  rw [View.canon_cons_of_not_mem]
  · rw [← upper_emb, View.canon_cons_emb]
    exact pay2_eq x1 l s
  · intro hy
    have h : 32 ≤ s.val := ((Rect.mem_set_unit (inb := inb_S160x1024_S128x1024_32_0)).1 hy 0).1
    omega

theorem staged_lower : View.canon (stores x0 x1) (ix2 ⟨32 + r.val, lower_lt r⟩ l) = x0 (ix3 0 r l) := by
  unfold stores
  rw [← lower_emb, View.canon_cons_emb]
  exact pay3_eq x0 r l

/-- What the two stores leave on the stage. -/
theorem staged (s : Fin 160) : View.canon (stores x0 x1) (ix2 s l) = stage x0 x1 s.val l := by
  unfold stage
  by_cases h : s.val < 32
  · rw [dif_pos h]
    exact staged_upper x0 x1 l ⟨s.val, h⟩
  · have h' : s.val - 32 < 128 := by omega
    rw [dif_neg h, dif_pos h', ← staged_lower x0 x1]
    congr 2
    refine Fin.ext ?_
    show s.val = 32 + (s.val - 32)
    omega

/-- A load of 128 rows of the stage. -/
theorem load_rows {κ : Kind} {sp : Space} (v : View sig κ sp S160x1024 .f32) (o : ℕ) (inb : ∀ a, (![o, 0] : Fin 2 → ℕ) a + (![128, 1024] : Fin 2 → ℕ) a ≤ S160x1024.size a) :
    v.readCov (stores x0 x1) (Rect.unit (s := S160x1024) ![o, 0] ![128, 1024] inb).toLoadRect = rows x0 x1 o := by
  have ho : o + 128 ≤ 160 := inb 0
  rw [View.readCov_eq_canon']
  funext y
  have h0 : (y 0).val < 128 := (y 0).isLt
  have e : (Rect.unit (s := S160x1024) ![o, 0] ![128, 1024] inb).toLoadRect.idx y = ix2 ⟨o + (y 0).val, by omega⟩ (y 1) := by
    funext a
    refine Fin.ext ?_
    revert a
    refine Fin.forall_fin_two.2 ⟨?_, ?_⟩
    · show o + 1 * (y 0).val = o + (y 0).val
      omega
    · show 0 + 1 * (y 1).val = (y 1).val
      omega
  rw [e]
  exact staged x0 x1 (y 1) ⟨o + (y 0).val, _⟩

/-- A load of one tap. -/
theorem load_row (o : ℕ) (inb : ∀ a, (![o, 0] : Fin 2 → ℕ) a + (![1, 1024] : Fin 2 → ℕ) a ≤ S32x1024.size a) :
    View.ld (Val := Elt Idealize.ShloMosaic.Ideal) (e' := .f32) x3 (Rect.unit (s := S32x1024) ![o, 0] ![1, 1024] inb) = wrow x3 o := by
  have ho : o + 1 ≤ 32 := inb 0
  funext y
  unfold wrow
  rw [dif_pos (show o < 32 by omega)]
  refine congrArg x3 ?_
  have h0 : (y 0).val < 1 := (y 0).isLt
  funext a
  refine Fin.ext ?_
  revert a
  refine Fin.forall_fin_two.2 ⟨?_, ?_⟩
  · show o + 1 * (y 0).val = o
    omega
  · show 0 + 1 * (y 1).val = (y 1).val
    omega

/-- The last step: what comes of a row less its mean, its variance and the gate. -/
theorem pay1_eq (d : FVec Idealize.ShloMosaic.Ideal S128x1024 .f32) (v : FVec Idealize.ShloMosaic.Ideal S128x1 .f32) :
    (k0_pay1 (F := Idealize.ShloMosaic.Ideal) d v x5 x6 x2 (ix3 0 r l) : EReal)
    = silu (d (ix2 r l) * Idealize.ShloMosaic.Ideal.rsqrt (v (ix2 r 0)) * x5 (ix2 0 l) + x6 (ix2 0 l)) * silu (x2 (ix3 0 r l)) := by
  unfold silu
  unfold_payloads
  pointwise
  rw [zero_sub, zero_sub]

/-- The row a tap sum has come to, its bias added, of the last four taps and the sum before them. -/
def lastRow (s : FVec Idealize.ShloMosaic.Ideal S128x1024 .f32) (w0 : FVec Idealize.ShloMosaic.Ideal S1x1024 .f32) (a0 : FVec Idealize.ShloMosaic.Ideal S128x1024 .f32)
    (w1 : FVec Idealize.ShloMosaic.Ideal S1x1024 .f32) (a1 : FVec Idealize.ShloMosaic.Ideal S128x1024 .f32) (w2 : FVec Idealize.ShloMosaic.Ideal S1x1024 .f32)
    (a2 : FVec Idealize.ShloMosaic.Ideal S128x1024 .f32) (w3 : FVec Idealize.ShloMosaic.Ideal S1x1024 .f32) (a3 : FVec Idealize.ShloMosaic.Ideal S128x1024 .f32) (k : Fin 1024) : EReal :=
  s (ix2 r k) + w0 (ix2 0 k) * a0 (ix2 r k) + w1 (ix2 0 k) * a1 (ix2 r k) + w2 (ix2 0 k) * a2 (ix2 r k) + w3 (ix2 0 k) * a3 (ix2 r k) + x4 (ix2 0 k)

variable (s a0 a1 a2 a3 : FVec Idealize.ShloMosaic.Ideal S128x1024 .f32) (w0 w1 w2 w3 : FVec Idealize.ShloMosaic.Ideal S1x1024 .f32)

theorem pay14_eq : (k0_pay14 (F := Idealize.ShloMosaic.Ideal) s w0 a0 w1 a1 w2 a2 w3 a3 x4 (ix2 r l) : EReal) = dev (lastRow x4 r s w0 a0 w1 a1 w2 a2 w3 a3) l := by
  unfold dev mean lastRow
  unfold_payloads
  pointwise

theorem pay15_eq : Idealize.ShloMosaic.Ideal.rsqrt (k0_pay15 (F := Idealize.ShloMosaic.Ideal) s w0 a0 w1 a1 w2 a2 w3 a3 x4 (ix2 r 0)) = rstd (lastRow x4 r s w0 a0 w1 a1 w2 a2 w3 a3) := by
  unfold rstd dev mean lastRow
  unfold_payloads
  pointwise

variable (c : Dev nD) (i : grid0.Coords) (arg2 : Memref sig .tc .vmem S1x128x1024 .f32) (harg2 : arg2.IsWhole) (arg3 : Memref sig .tc .vmem S1x32x1024 .f32) (harg3 : arg3.IsWhole)
  (arg4 : Memref sig .tc .vmem S1x128x1024 .f32) (harg4 : arg4.IsWhole) (arg5 : Memref sig .tc .vmem S32x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S1x128x1024 .bf16) (harg9 : arg9.IsWhole) (arg10 : Memref sig .tc .vmem S160x1024 .f32) (harg10 : arg10.IsWhole)

/-- What the body leaves. -/
theorem body : (out0_A_7 (F := Idealize.ShloMosaic.Ideal) c i arg2 harg2 arg3 harg3 arg4 harg4 arg5 harg5 arg6 harg6 arg7 harg7 arg8 harg8 arg9 harg9 arg10 harg10 x0 x1 x2 x3 x4 x5 x6 (ix3 0 r l) : EReal)
    = gated (fun k => acc (fun w => wrow x3 w (ix2 0 k) * rows x0 x1 (2 + w) (ix2 r k)) 31 + x4 (ix2 0 k))
        (fun k => x5 (ix2 0 k)) (fun k => x6 (ix2 0 k)) (fun k => x2 (ix3 0 r k)) l := by
  unfold out0_A_7
  frame_out
  simp only [load_rows, load_row]
  rw [pay1_eq, pay14_eq, pay15_eq]
  unfold gated
  have e : ∀ f g : Fin 1024 → EReal, f = g → silu (dev f l * rstd f * x5 (ix2 0 l) + x6 (ix2 0 l)) * silu (x2 (ix3 0 r l))
      = silu (dev g l * rstd g * x5 (ix2 0 l) + x6 (ix2 0 l)) * silu (x2 (ix3 0 r l)) := fun f g h => by rw [h]
  refine e _ _ (funext fun k => ?_)
  unfold lastRow
  unfold_payloads
  pointwise
  simp only [acc, zero_add, Nat.reduceAdd]

end Body

variable (m : (ℓ : Loc nD τ sig) → Buf (Elt Idealize.ShloMosaic.Ideal) ℓ) (c : Dev nD)

/-- The arguments, as arrays. -/
abbrev Av : Vals := m ((c : Thread nD τ).loc main_arg0)
abbrev Ap : Prev := m ((c : Thread nD τ).loc main_arg1)
abbrev Au : Prj := m ((c : Thread nD τ).loc main_arg2)
abbrev Aw : Taps := m ((c : Thread nD τ).loc main_arg3)
abbrev Ab : PerFeat := m ((c : Thread nD τ).loc main_arg4)
abbrev Ag : PerFeat := m ((c : Thread nD τ).loc main_arg5)
abbrev As : PerFeat := m ((c : Thread nD τ).loc main_arg6)

theorem idx0 (t : Fin cfg0.N) : win0_0.index t = ![t.val / 64, t.val % 64, 0] := by revert t; decide +kernel
theorem idx1 (t : Fin cfg0.N) : win0_1.index t = ![t.val / 64, 4 * (t.val % 64), 0] := by revert t; decide +kernel
theorem idx2 (t : Fin cfg0.N) : win0_2.index t = ![t.val / 64, t.val % 64, 2] := by revert t; decide +kernel
theorem idx3 (t : Fin cfg0.N) : win0_3.index t = ![0, 0] := by revert t; decide +kernel
theorem idx4 (t : Fin cfg0.N) : win0_4.index t = ![0, 0] := by revert t; decide +kernel
theorem idx5 (t : Fin cfg0.N) : win0_5.index t = ![0, 0] := by revert t; decide +kernel
theorem idx6 (t : Fin cfg0.N) : win0_6.index t = ![0, 0] := by revert t; decide +kernel
theorem idx7 (t : Fin cfg0.N) : win0_7.index t = ![t.val / 64, t.val % 64, 0] := by revert t; decide +kernel

variable (b : Fin 2) (l : Fin 1024)

/-- The values in a row, as the kernel finds them: two rows of zeros come first. -/
theorem ext_host (s : Fin 8224) (h : 2 ≤ s.val) : (V m c main_v2 (ix3 b s l) : EReal) = line (Ap m c) (Av m c) b (s.val - 2) l := by
  have hs : s.val < 8224 := s.isLt
  unfold line
  entry_read
  pointwise
  by_cases h1 : s.val < 32
  · rw [dif_pos h1, dif_neg (show ¬ s.val < 2 by omega), dif_pos (show s.val - 2 < 30 by omega)]
    rfl
  · rw [dif_neg h1, dif_neg (show ¬ s.val - 2 < 30 by omega), dif_pos (show s.val - 2 - 30 < 8192 by omega)]
    rfl

theorem w_host (k : Fin 32) (h : k.val < 31) : (V m c main_v4 (ix2 k l) : EReal) = tap (Aw m c) k.val l := by
  unfold tap
  entry_read
  pointwise

theorem b_host : (V m c main_v5 (ix2 0 l) : EReal) = Ab m c (ix1 l) := by
  entry_read
  pointwise
  try rfl

theorem g_host : (V m c main_v6 (ix2 0 l) : EReal) = Ag m c (ix1 l) := by
  entry_read
  pointwise
  try rfl

theorem s_host : (V m c main_v7 (ix2 0 l) : EReal) = As m c (ix1 l) := by
  entry_read
  pointwise
  try rfl

variable (t : Fin cfg0.N) (r : Fin 128)

theorem bat_lt : t.val / 64 < 2 := by
  have h : t.val < 128 := t.isLt
  omega

theorem pos_lt : t.val % 64 * 128 + r.val < 8192 := by omega

theorem ahead_lt (s : Fin 32) : 4 * (t.val % 64) * 32 + s.val < 8224 := by omega

theorem gate_lt : 2 * 1024 + l.val < 14336 := by omega

/-- The batch of a grid point. -/
def bat : Fin 2 := ⟨t.val / 64, bat_lt t⟩
/-- The position that is row `r` of a grid point's block. -/
def pos : Fin 8192 := ⟨t.val % 64 * 128 + r.val, pos_lt t r⟩

theorem emb7 : (win0_7.blk t).view.emb (ix3 0 r l) = ix3 (bat t) (pos t r) l := by
  funext a
  fin_cases a <;> refine Fin.ext ?_ <;> blk_simp [idx7]
  · rfl
  · rfl
  · rfl

theorem iblk0_eq : iblk m c 0 t (ix3 0 r l) = Av m c (ix3 (bat t) (pos t r) l) := by
  refine Eq.trans ?_ (congrFun (V_main_arg0 m c) _)
  blk_simp [iblk]
  refine congrArg (V m c main_arg0) ?_
  funext a
  fin_cases a <;> refine Fin.ext ?_ <;> blk_simp [idx0]
  · rfl
  · rfl
  · rfl

theorem iblk1_eq (s : Fin 32) (h : 2 ≤ s.val) : iblk m c 1 t (ix3 0 s l) = line (Ap m c) (Av m c) (bat t) (4 * (t.val % 64) * 32 + s.val - 2) l := by
  refine Eq.trans ?_ (ext_host m c (bat t) l ⟨4 * (t.val % 64) * 32 + s.val, ahead_lt t s⟩ (le_trans h (Nat.le_add_left _ _)))
  blk_simp [iblk]
  refine congrArg (V m c main_v2) ?_
  funext a
  fin_cases a <;> refine Fin.ext ?_ <;> blk_simp [idx1]
  · rfl
  · rfl
  · rfl

theorem iblk2_eq : iblk m c 2 t (ix3 0 r l) = Au m c (ix3 (bat t) (pos t r) ⟨2 * 1024 + l.val, gate_lt l⟩) := by
  refine Eq.trans ?_ (congrFun (V_main_arg2 m c) _)
  blk_simp [iblk]
  refine congrArg (V m c main_arg2) ?_
  funext a
  fin_cases a <;> refine Fin.ext ?_ <;> blk_simp [idx2]
  · rfl
  · rfl
  · rfl

theorem iblk3_eq (k : Fin 32) (h : k.val < 31) : iblk m c 3 t (ix2 k l) = tap (Aw m c) k.val l := by
  refine Eq.trans ?_ (w_host m c l k h)
  blk_simp [iblk]
  refine congrArg (V m c main_v4) ?_
  funext a
  fin_cases a <;> refine Fin.ext ?_ <;> blk_simp [idx3]

theorem iblk4_eq : iblk m c 4 t (ix2 0 l) = Ab m c (ix1 l) := by
  refine Eq.trans ?_ (b_host m c l)
  blk_simp [iblk]
  refine congrArg (V m c main_v5) ?_
  funext a
  fin_cases a <;> refine Fin.ext ?_ <;> blk_simp [idx4]

theorem iblk5_eq : iblk m c 5 t (ix2 0 l) = Ag m c (ix1 l) := by
  refine Eq.trans ?_ (g_host m c l)
  blk_simp [iblk]
  refine congrArg (V m c main_v6) ?_
  funext a
  fin_cases a <;> refine Fin.ext ?_ <;> blk_simp [idx5]

theorem iblk6_eq : iblk m c 6 t (ix2 0 l) = As m c (ix1 l) := by
  refine Eq.trans ?_ (s_host m c l)
  blk_simp [iblk]
  refine congrArg (V m c main_v7) ?_
  funext a
  fin_cases a <;> refine Fin.ext ?_ <;> blk_simp [idx6]

/-- The rows of the stage that are read are the values in a row, from thirty before the block's first. -/
theorem stage_eq (w : ℕ) (hw : w < 31) : rows (iblk m c 0 t) (iblk m c 1 t) (2 + w) (ix2 r l) = line (Ap m c) (Av m c) (bat t) ((pos t r).val + w) l := by
  show stage _ _ (2 + w + r.val) l = _
  unfold stage
  by_cases h : 2 + w + r.val < 32
  · rw [dif_pos h]
    refine (iblk1_eq m c l t ⟨2 + w + r.val, h⟩ ?_).trans ?_
    · show 2 ≤ 2 + w + r.val
      omega
    · refine congrArg (fun s => line (Ap m c) (Av m c) (bat t) s l) ?_
      show 4 * (t.val % 64) * 32 + (2 + w + r.val) - 2 = t.val % 64 * 128 + r.val + w
      omega
  · have h' : 2 + w + r.val - 32 < 128 := by omega
    rw [dif_neg h, dif_pos h']
    refine (iblk0_eq m c l t ⟨2 + w + r.val - 32, h'⟩).trans ?_
    unfold line
    have hp : (pos t r).val = t.val % 64 * 128 + r.val := rfl
    have h1 : ¬ (pos t r).val + w < 30 := by omega
    have h2 : (pos t r).val + w - 30 < 8192 := by omega
    rw [dif_neg h1, dif_pos h2]
    refine congrArg (fun s => Av m c (ix3 (bat t) s l)) (Fin.ext ?_)
    show t.val % 64 * 128 + (2 + w + r.val - 32) = (pos t r).val + w - 30
    omega

/-- The convolution, number by number. -/
def G : (⟨3, ![2, 8192, 1024]⟩ : Shape).Idx → EReal := fun y =>
  gated (fun k => acc (fun w => line (Ap m c) (Av m c) (y 0) ((y 1).val + w) k * tap (Aw m c) w k) 31 + Ab m c (ix1 k))
    (fun k => Ag m c (ix1 k)) (fun k => As m c (ix1 k)) (fun k => Au m c (ix3 (y 0) (y 1) ⟨2 * 1024 + k.val, gate_lt k⟩)) (y 2)

/-- What the body leaves at a grid point is the result's block there. -/
theorem outs_blk (y : S1x128x1024.Idx) : (outsAt0 m c t y : EReal) = G m c ((win0_7.blk t).view.emb y) := by
  obtain ⟨r, l, rfl⟩ : ∃ (r : Fin 128) (l : Fin 1024), y = ix3 0 r l :=
    ⟨y 1, y 2, (eq_ix3 y).trans (congrArg (fun a => ix3 a (y 1) (y 2)) (Subsingleton.elim (α := Fin 1) _ _))⟩
  rw [emb7]
  unfold outsAt0
  rw [body]
  unfold G
  simp only [iblk2_eq, iblk4_eq, iblk5_eq, iblk6_eq]
  refine congrArg (fun x => gated x _ _ _ l) (funext fun k => congrArg (· + Ab m c (ix1 k)) (acc_congr 31 fun w hw => ?_))
  rw [stage_eq m c k t r w hw, mul_comm]
  refine congrArg (line (Ap m c) (Av m c) (bat t) ((pos t r).val + w) k * ·) ?_
  unfold wrow
  rw [dif_pos (show w < 32 by omega)]
  exact iblk3_eq m c k t ⟨w, _⟩ hw

/-- The kernel's result array after the run. -/
theorem arr : (dats m 0 c).arrAt 7 cfg0.N = G m c := by
  refine (dats m 0 c).arrAt_eq_of_covers 7 _ (by decide +kernel) fun t hf y => ?_
  blk_simp
  rw [after0_7]
  exact outs_blk m c t y

end Cert.ConvIdeal.Convolving

end
-- ==== Proof.Conv.Ref.lean ====
/- The reference's convolution, number by number. -/
module

public import proofs.«01_k».proof.Proof.Gen.ConvRefIdeal.Read
public import proofs.«01_k».proof.Proof.Conv.Spec

@[expose] public section

set_option maxRecDepth 16384

noncomputable section

namespace Cert.ConvRefIdeal.Convolving

open Idealize.ShloMosaic Cert.ConvRefIdeal Cert.ConvRefIdeal.Gen Cert.ConvRefIdeal.Read Cert.Convolving

variable (x0 : Vals) (x1 : Prev) (x2 : Prj) (x3 : Taps) (x4 x5 x6 : PerFeat) (b : Fin 2) (t : Fin 8192) (l : Fin 1024)

theorem line_eq (s : Fin 8222) : val_main_v0 (F := Ideal) x0 x1 (ix3 b s l) = line x1 x0 b s.val l := by
  unfold val_main_v0 line
  pointwise
  have hs : s.val < 8222 := s.isLt
  by_cases h : s.val < 30
  · rw [dif_pos h, dif_pos h]
  · rw [dif_neg h, dif_neg h, dif_pos (show s.val - 30 < 8192 by omega)]

/-- The sum of the taps. -/
theorem taps : val_main_v218 (F := Ideal) x0 x1 x3 (ix3 b t l) = acc (fun w => line x1 x0 b (t.val + w) l * tap x3 w l) 31 := by
  have e := fun s => line_eq x0 x1 b l s
  simp only [
    val_main_v218, val_main_v217, val_main_v216, val_main_v215, val_main_v214, val_main_v213, val_main_v212, val_main_v211, val_main_v210, val_main_v209,
    val_main_v208, val_main_v207, val_main_v206, val_main_v205, val_main_v204, val_main_v203, val_main_v202, val_main_v201, val_main_v200, val_main_v199,
    val_main_v198, val_main_v197, val_main_v196, val_main_v195, val_main_v194, val_main_v193, val_main_v192, val_main_v191, val_main_v190, val_main_v189,
    val_main_v188, val_main_v187, val_main_v186, val_main_v185, val_main_v184, val_main_v183, val_main_v182, val_main_v181, val_main_v180, val_main_v179,
    val_main_v178, val_main_v177, val_main_v176, val_main_v175, val_main_v174, val_main_v173, val_main_v172, val_main_v171, val_main_v170, val_main_v169,
    val_main_v168, val_main_v167, val_main_v166, val_main_v165, val_main_v164, val_main_v163, val_main_v162, val_main_v161, val_main_v160, val_main_v159,
    val_main_v158, val_main_v157, val_main_v156, val_main_v155, val_main_v154, val_main_v153, val_main_v152, val_main_v151, val_main_v150, val_main_v149,
    val_main_v148, val_main_v147, val_main_v146, val_main_v145, val_main_v144, val_main_v143, val_main_v142, val_main_v141, val_main_v140, val_main_v139,
    val_main_v138, val_main_v137, val_main_v136, val_main_v135, val_main_v134, val_main_v133, val_main_v132, val_main_v131, val_main_v130, val_main_v129,
    val_main_v128, val_main_v127, val_main_v126, val_main_v125, val_main_v124, val_main_v123, val_main_v122, val_main_v121, val_main_v120, val_main_v119,
    val_main_v118, val_main_v117, val_main_v116, val_main_v115, val_main_v114, val_main_v113, val_main_v112, val_main_v111, val_main_v110, val_main_v109,
    val_main_v108, val_main_v107, val_main_v106, val_main_v105, val_main_v104, val_main_v103, val_main_v102, val_main_v101, val_main_v100, val_main_v99,
    val_main_v98, val_main_v97, val_main_v96, val_main_v95, val_main_v94, val_main_v93, val_main_v92, val_main_v91, val_main_v90, val_main_v89,
    val_main_v88, val_main_v87, val_main_v86, val_main_v85, val_main_v84, val_main_v83, val_main_v82, val_main_v81, val_main_v80, val_main_v79,
    val_main_v78, val_main_v77, val_main_v76, val_main_v75, val_main_v74, val_main_v73, val_main_v72, val_main_v71, val_main_v70, val_main_v69,
    val_main_v68, val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_cst]
  generalize val_main_v0 (F := Ideal) x0 x1 = y at e ⊢
  pointwise
  have hc : ∀ w, line x1 x0 b (t.val + w) l = line x1 x0 b (w + t.val) l := fun w => by rw [Nat.add_comm]
  simp only [e, acc, tap, hc, zero_add, Nat.reduceLT, ↓reduceDIte]
  rfl

/-- The row the taps' sum comes to, its bias added. -/
def conv (k : Fin 1024) : EReal := acc (fun w => line x1 x0 b (t.val + w) k * tap x3 w k) 31 + x4 (ix1 k)

theorem conv_eq : val_main_v221 (F := Ideal) x0 x1 x3 x4 (ix3 b t l) = conv x0 x1 x3 x4 b t l := by
  unfold conv
  rw [← taps]
  simp only [val_main_v221, val_main_v220, val_main_v219]
  generalize val_main_v218 (F := Ideal) x0 x1 x3 = y
  pointwise

theorem dev_eq : val_main_v234 (F := Ideal) x0 x1 x3 x4 (ix3 b t l) = dev (conv x0 x1 x3 x4 b t) l := by
  have e := conv_eq x0 x1 x3 x4 b t
  unfold dev mean
  simp only [← e]
  simp only [val_main_v234, val_main_v233, val_main_v225, val_main_v224, val_main_v223, val_main_v222, val_main_cst_0, val_main_cst_1]
  generalize val_main_v221 (F := Ideal) x0 x1 x3 x4 = y
  pointwise

theorem rstd_eq : val_main_v237 (F := Ideal) x0 x1 x3 x4 (ix3 b t 0) = rstd (conv x0 x1 x3 x4 b t) := by
  have e := dev_eq x0 x1 x3 x4 b t
  have h : val_main_v227 (F := Ideal) x0 x1 x3 x4 = val_main_v234 (F := Ideal) x0 x1 x3 x4 := rfl
  unfold rstd mean
  simp only [← e]
  simp only [val_main_v237, val_main_v236, val_main_v235, val_main_v232, val_main_v231, val_main_v230, val_main_v229, val_main_v228, val_main_cst_2, val_main_cst_3, val_main_cst_4, h]
  generalize val_main_v234 (F := Ideal) x0 x1 x3 x4 = y
  pointwise

theorem gate_lt : 2 * 1024 + l.val < 14336 := by omega

/-- The reference's result, number by number. -/
theorem result : val_main_v250 (F := Ideal) x0 x1 x2 x3 x4 x5 x6 (ix3 b t l)
    = gated (conv x0 x1 x3 x4 b t) (fun k => x5 (ix1 k)) (fun k => x6 (ix1 k)) (fun k => x2 (ix3 b t ⟨2 * 1024 + k.val, gate_lt k⟩)) l := by
  unfold gated silu
  rw [← dev_eq, ← rstd_eq]
  simp only [val_main_v250, val_main_v249, val_main_v248, val_main_v247, val_main_v246, val_main_v245, val_main_v244, val_main_v243, val_main_v242, val_main_v241, val_main_v240, val_main_v239, val_main_v238,
    val_main_call0_v0, val_main_call0_v1, val_main_call0_v2, val_main_call0_v3, val_main_call0_v4, val_main_call0_v5, val_main_call0_cst, val_main_call0_cst_0,
    val_main_call1_v0, val_main_call1_v1, val_main_call1_v2, val_main_call1_v3, val_main_call1_v4, val_main_call1_v5, val_main_call1_cst, val_main_call1_cst_0]
  generalize val_main_v234 (F := Ideal) x0 x1 x3 x4 = y
  generalize val_main_v237 (F := Ideal) x0 x1 x3 x4 = z
  pointwise

end Cert.ConvRefIdeal.Convolving

end
-- ==== Proof.lean ====
/- The certificate's claim, put together: the kernels' frames (generated), the references' frames from their runs, the
   two named constants, and the equality of each kernel's and its reference's results over the extended reals
   (Host.lean for the kernel and Ref.lean for the reference, in Proof/Attn, Proof/Proj, Proof/Merge, Proof/Lora,
   Proof/Heads and Proof/Conv; Proof/Heads/Pre.lean is what the one condition on arguments says). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Lora
public import proofs.«01_k».proof.Proof.Gen.Lora.Skeleton
public import proofs.«01_k».proof.Proof.Gen.Lora.Launch
public import proofs.«01_k».proof.Proof.Gen.Lora.Points
public import proofs.«01_k».proof.Proof.Gen.Lora.Frame
public import proofs.«01_k».proof.Proof.Gen.LoraIdeal
public import proofs.«01_k».proof.Proof.Gen.LoraIdeal.Skeleton
public import proofs.«01_k».proof.Proof.Gen.LoraIdeal.Launch
public import proofs.«01_k».proof.Proof.Gen.LoraIdeal.Points
public import proofs.«01_k».proof.Proof.Gen.LoraIdeal.Frame
public import proofs.«01_k».proof.Proof.Gen.LoraIdeal.Value
public import proofs.«01_k».proof.Proof.Gen.LoraRefIdeal
public import proofs.«01_k».proof.Proof.Gen.LoraRefIdeal.Run
public import proofs.«01_k».proof.Proof.Gen.LoraRefIdeal.Read
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsIdeal.Value
public import proofs.«01_k».proof.Proof.Gen.HeadsRefIdeal
public import proofs.«01_k».proof.Proof.Gen.HeadsRefIdeal.Run
public import proofs.«01_k».proof.Proof.Gen.HeadsRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_finite_heads
public import Idealize.ShloMosaic.Adequacy
public import Idealize.ShloMosaic.Init
public import proofs.«01_k».proof.Proof.Attn.Host
public import proofs.«01_k».proof.Proof.Attn.Ref
public import proofs.«01_k».proof.Proof.Proj.Host
public import proofs.«01_k».proof.Proof.Proj.Ref
public import proofs.«01_k».proof.Proof.Merge.Host
public import proofs.«01_k».proof.Proof.Merge.Ref
public import proofs.«01_k».proof.Proof.Lora.Host
public import proofs.«01_k».proof.Proof.Lora.Ref
public import proofs.«01_k».proof.Proof.Heads.Host
public import proofs.«01_k».proof.Proof.Heads.Pre
public import proofs.«01_k».proof.Proof.Heads.Ref
public import proofs.«01_k».proof.Proof.Conv.Host
public import proofs.«01_k».proof.Proof.Conv.Ref

@[expose] public section

noncomputable section

namespace Cert.Proof

open Idealize.ShloMosaic Idealize.SL.Sem

theorem frame_kernel : Cert.quiescent_Kernel (hKernel := Cert.Kernel.Gen.facts) := fun m ρ _ => Cert.Kernel.Gen.frame m ρ

theorem frame_kernel_ideal : Cert.quiescent_KernelIdeal (hKernelIdeal := Cert.KernelIdeal.Gen.facts) := fun m ρ _ => Cert.KernelIdeal.Gen.frame m ρ

theorem frame_reference_ideal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the reciprocal of the logarithm of two. -/
theorem preserves : Cert.preserves_Kernel_KernelIdeal :=
  IdealRules.named_const.statement Cert.KernelIdeal.κ "log2e" .f32 0x3FB8AA3B#32 (((Real.log 2)⁻¹ : ℝ) : EReal) rfl

/-- The kernel's attention is the reference's: the same extended real at every place of the result. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Attn.G m c, ?_, ?_⟩
  · refine (θ_run Cert.KernelIdeal.defs _ _).mono (fun r h c => ?_) (Cert.KernelIdeal.Value.run_blocks m g)
    exact ⟨(h c).1.trans (Cert.KernelIdeal.Attn.arr m c), (h c).2⟩
  · refine (θ_run Cert.ReferenceIdeal.defs _ _).mono (fun r h c => ?_) (Cert.ReferenceIdeal.Value.run (F := Ideal) m' g')
    refine ⟨(h c).1.trans ?_, (h c).2⟩
    rw [Cert.ReferenceIdeal.Read.val_main_v28_eq, (hagree c).1, (hagree c).2.1, (hagree c).2.2.1, (hagree c).2.2.2.1, (hagree c).2.2.2.2]
    funext y
    rw [eq_ix3 y]
    exact Cert.ReferenceIdeal.Attn.result _ _ _ _ _ _ _ _

theorem frame_proj : Cert.quiescent_Proj (hProj := Cert.Proj.Gen.facts) := fun m ρ _ => Cert.Proj.Gen.frame m ρ

theorem frame_proj_ideal : Cert.quiescent_ProjIdeal (hProjIdeal := Cert.ProjIdeal.Gen.facts) := fun m ρ _ => Cert.ProjIdeal.Gen.frame m ρ

theorem frame_proj_ref : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The kernel's projection of the normalised input is the reference's: the same extended real at every place of the result. -/
theorem algebraic_proj : Cert.algebraic_ProjIdeal_ProjRefIdeal (hProjIdeal := Cert.ProjIdeal.Gen.facts) (hProjRefIdeal := Cert.ProjRefIdeal.Gen.facts) := by
  intro m g m' g' _ hagree
  refine ⟨fun c => Cert.ProjIdeal.Projecting.G m c, ?_, ?_⟩
  · refine (θ_run Cert.ProjIdeal.defs _ _).mono (fun r h c => ?_) (Cert.ProjIdeal.Value.run_blocks m g)
    exact ⟨(h c).1.trans (Cert.ProjIdeal.Projecting.arr m c), (h c).2⟩
  · refine (θ_run Cert.ProjRefIdeal.defs _ _).mono (fun r h c => ?_) (Cert.ProjRefIdeal.Value.run (F := Ideal) m' g')
    refine ⟨(h c).1.trans ?_, (h c).2⟩
    rw [Cert.ProjRefIdeal.Read.val_main_v17_eq, (hagree c).1, (hagree c).2.1, (hagree c).2.2]
    funext y
    rw [eq_ix2 y]
    exact Cert.ProjRefIdeal.Projecting.result _ _ _ _ _

theorem frame_merge : Cert.quiescent_Merge (hMerge := Cert.Merge.Gen.facts) := fun m ρ _ => Cert.Merge.Gen.frame m ρ

theorem frame_merge_ideal : Cert.quiescent_MergeIdeal (hMergeIdeal := Cert.MergeIdeal.Gen.facts) := fun m ρ _ => Cert.MergeIdeal.Gen.frame m ρ

theorem frame_merge_ref : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The kernel's merge of the branches is the reference's: the same extended real at every place of the result. -/
theorem algebraic_merge : Cert.algebraic_MergeIdeal_MergeRefIdeal (hMergeIdeal := Cert.MergeIdeal.Gen.facts) (hMergeRefIdeal := Cert.MergeRefIdeal.Gen.facts) := by
  intro m g m' g' _ hagree
  refine ⟨fun c => Cert.MergeIdeal.Merging.G m c, ?_, ?_⟩
  · refine (θ_run Cert.MergeIdeal.defs _ _).mono (fun r h c => ?_) (Cert.MergeIdeal.Value.run_blocks m g)
    exact ⟨(h c).1.trans (Cert.MergeIdeal.Merging.arr m c), (h c).2⟩
  · refine (θ_run Cert.MergeRefIdeal.defs _ _).mono (fun r h c => ?_) (Cert.MergeRefIdeal.Value.run (F := Ideal) m' g')
    refine ⟨(h c).1.trans ?_, (h c).2⟩
    rw [Cert.MergeRefIdeal.Read.val_main_v24_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    funext y
    rw [eq_ix2 y]
    exact Cert.MergeRefIdeal.Merging.result _ _ _ _ _ _ _ _ _ _ _

theorem frame_lora : Cert.quiescent_Lora (hLora := Cert.Lora.Gen.facts) := fun m ρ _ => Cert.Lora.Gen.frame m ρ

theorem frame_lora_ideal : Cert.quiescent_LoraIdeal (hLoraIdeal := Cert.LoraIdeal.Gen.facts) := fun m ρ _ => Cert.LoraIdeal.Gen.frame m ρ

theorem frame_lora_ref : Cert.quiescent_LoraRefIdeal (hLoraRefIdeal := Cert.LoraRefIdeal.Gen.facts) := fun m ρ _ =>
  (θ_run Cert.LoraRefIdeal.defs _ _).mono (fun r h => ⟨fun c => (h c).2, sem_eq_zero_of_no_sems (by decide) r.2⟩)
    (Cert.LoraRefIdeal.Value.run (F := Ideal) m ρ)

/-- The kernel's low-rank columns of the projected input are the reference's: the same extended real at every place of the result. -/
theorem algebraic_lora : Cert.algebraic_LoraIdeal_LoraRefIdeal (hLoraIdeal := Cert.LoraIdeal.Gen.facts) (hLoraRefIdeal := Cert.LoraRefIdeal.Gen.facts) := by
  intro m g m' g' _ hagree
  refine ⟨fun c => Cert.LoraIdeal.LowRank.G m c, ?_, ?_⟩
  · refine (θ_run Cert.LoraIdeal.defs _ _).mono (fun r h c => ?_) (Cert.LoraIdeal.Value.run_blocks m g)
    exact ⟨(h c).1.trans (Cert.LoraIdeal.LowRank.arr m c), (h c).2⟩
  · refine (θ_run Cert.LoraRefIdeal.defs _ _).mono (fun r h c => ?_) (Cert.LoraRefIdeal.Value.run (F := Ideal) m' g')
    refine ⟨(h c).1.trans ?_, (h c).2⟩
    rw [Cert.LoraRefIdeal.Read.val_main_v15_eq, (hagree c).1, (hagree c).2.1, (hagree c).2.2]
    funext y
    rw [eq_ix2 y]
    exact Cert.LoraRefIdeal.LowRank.result _ _ _ _ _

theorem frame_heads : Cert.quiescent_Heads (hHeads := Cert.Heads.Gen.facts) := fun m ρ _ => Cert.Heads.Gen.frame m ρ

theorem frame_heads_ideal : Cert.quiescent_HeadsIdeal (hHeadsIdeal := Cert.HeadsIdeal.Gen.facts) := fun m ρ _ => Cert.HeadsIdeal.Gen.frame m ρ

theorem frame_heads_ref : Cert.quiescent_HeadsRefIdeal (hHeadsRefIdeal := Cert.HeadsRefIdeal.Gen.facts) := fun m ρ _ =>
  (θ_run Cert.HeadsRefIdeal.defs _ _).mono (fun r h => ⟨fun c => (h c).2.2.2.2.2, sem_eq_zero_of_no_sems (by decide) r.2⟩)
    (Cert.HeadsRefIdeal.Value.run (F := Ideal) m ρ)

theorem frame_heads_ideal_pre : Cert.quiescent_HeadsIdeal_pre_finite_heads (hHeadsIdeal := Cert.HeadsIdeal.Gen.facts) (hPre_finite_heads := Cert.Pre_finite_heads.Gen.facts) :=
  fun m ρ _ => Cert.HeadsIdeal.Gen.frame m ρ

theorem frame_heads_ref_pre : Cert.quiescent_HeadsRefIdeal_pre_finite_heads (hHeadsRefIdeal := Cert.HeadsRefIdeal.Gen.facts) (hPre_finite_heads := Cert.Pre_finite_heads.Gen.facts) :=
  fun m ρ _ => frame_heads_ref m ρ trivial

/-- The named constant is an eighth over the logarithm of two. -/
theorem preserves_heads : Cert.preserves_Heads_HeadsIdeal :=
  IdealRules.named_const.statement Cert.HeadsIdeal.κ "qscale" .f32 0x3E38AA3B#32 (((1 / 8) * (Real.log 2)⁻¹ : ℝ) : EReal) rfl

/-- The kernel's gated values, queries, keys and values are the reference's, wherever the queries and the keys it starts
    from are finite: the same extended real at every place of the five results. -/
theorem algebraic_heads : Cert.algebraic_HeadsIdeal_HeadsRefIdeal_pre_finite_heads (hHeadsIdeal := Cert.HeadsIdeal.Gen.facts) (hHeadsRefIdeal := Cert.HeadsRefIdeal.Gen.facts)
    (hPre_finite_heads := Cert.Pre_finite_heads.Gen.facts) := by
  letI := Cert.Pre_finite_heads.Gen.facts
  intro m g m' g' hpre hagree
  refine ⟨fun c => Cert.HeadsIdeal.Heading.G8 m c, fun c => Cert.HeadsIdeal.Heading.G9 m c, fun c => Cert.HeadsIdeal.Heading.G10 m c, fun c => Cert.HeadsIdeal.Heading.G10 m c,
    fun c => Cert.HeadsIdeal.Heading.G12 m c, ?_, ?_⟩
  · refine (θ_run Cert.HeadsIdeal.defs _ _).mono (fun r h c => ?_) (Cert.HeadsIdeal.Value.run_blocks m g)
    have hf := Cert.HeadsIdeal.Heading.finite m hpre c
    exact ⟨(h c).1.trans (Cert.HeadsIdeal.Heading.arr8 m c), (h c).2.1.trans (Cert.HeadsIdeal.Heading.arr9 m c hf), (h c).2.2.1.trans (Cert.HeadsIdeal.Heading.arr10 m c hf),
      (h c).2.2.2.1.trans (Cert.HeadsIdeal.Heading.arr11 m c hf), (h c).2.2.2.2.1.trans (Cert.HeadsIdeal.Heading.arr12 m c), (h c).2.2.2.2.2⟩
  · refine (θ_run Cert.HeadsRefIdeal.defs _ _).mono (fun r h c => ?_) (Cert.HeadsRefIdeal.Value.run (F := Ideal) m' g')
    refine ⟨(h c).1.trans ?_, (h c).2.1.trans ?_, (h c).2.2.1.trans ?_, (h c).2.2.2.1.trans ?_, (h c).2.2.2.2.1.trans ?_, (h c).2.2.2.2.2⟩
    · rw [Cert.HeadsRefIdeal.Read.val_main_v47_eq, (hagree c).1]
      funext y
      rw [eq_ix2 y]
      exact Cert.HeadsRefIdeal.Heading.glu _ _ _
    · rw [Cert.HeadsRefIdeal.Read.val_main_v48_eq, (hagree c).1, (hagree c).2.1]
      funext y
      rw [eq_ix2 y]
      exact Cert.HeadsRefIdeal.Heading.query _ _ _ _
    · rw [Cert.HeadsRefIdeal.Read.val_main_v34_eq, (hagree c).1, (hagree c).2.2]
      funext y
      rw [eq_ix2 y]
      exact Cert.HeadsRefIdeal.Heading.key _ _ _ _
    · rw [Cert.HeadsRefIdeal.Read.val_main_v49_eq, (hagree c).1, (hagree c).2.2]
      funext y
      rw [eq_ix2 y]
      exact Cert.HeadsRefIdeal.Heading.key_short _ _ _ _
    · rw [Cert.HeadsRefIdeal.Read.val_main_v50_eq, (hagree c).1]
      funext y
      rw [eq_ix2 y]
      exact Cert.HeadsRefIdeal.Heading.value _ _ _

theorem frame_conv : Cert.quiescent_Conv (hConv := Cert.Conv.Gen.facts) := fun m ρ _ => Cert.Conv.Gen.frame m ρ

theorem frame_conv_ideal : Cert.quiescent_ConvIdeal (hConvIdeal := Cert.ConvIdeal.Gen.facts) := fun m ρ _ => Cert.ConvIdeal.Gen.frame m ρ

theorem frame_conv_ref : Cert.quiescent_ConvRefIdeal (hConvRefIdeal := Cert.ConvRefIdeal.Gen.facts) := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- The kernel's convolution, normalised and gated, is the reference's: the same extended real at every place of the result. -/
theorem algebraic_conv : Cert.algebraic_ConvIdeal_ConvRefIdeal (hConvIdeal := Cert.ConvIdeal.Gen.facts) (hConvRefIdeal := Cert.ConvRefIdeal.Gen.facts) := by
  intro m g m' g' _ hagree
  refine ⟨fun c => Cert.ConvIdeal.Convolving.G m c, ?_, ?_⟩
  · refine (θ_run Cert.ConvIdeal.defs _ _).mono (fun r h c => ?_) (Cert.ConvIdeal.Value.run_blocks m g)
    exact ⟨(h c).1.trans (Cert.ConvIdeal.Convolving.arr m c), (h c).2⟩
  · refine (θ_run Cert.ConvRefIdeal.defs _ _).mono (fun r h c => ?_) (Cert.ConvRefIdeal.Value.run (F := Ideal) m' g')
    refine ⟨(h c).1.trans ?_, (h c).2⟩
    refine (Cert.ConvRefIdeal.Read.val_main_v250_eq _).trans ?_
    show Cert.ConvRefIdeal.Read.val_main_v250 (F := Ideal)
      (m' ((c.tc : Thread Cert.ConvRefIdeal.nD Cert.ConvRefIdeal.τ).loc Cert.ConvRefIdeal.main_arg0))
      (m' ((c.tc : Thread Cert.ConvRefIdeal.nD Cert.ConvRefIdeal.τ).loc Cert.ConvRefIdeal.main_arg1))
      (m' ((c.tc : Thread Cert.ConvRefIdeal.nD Cert.ConvRefIdeal.τ).loc Cert.ConvRefIdeal.main_arg2))
      (m' ((c.tc : Thread Cert.ConvRefIdeal.nD Cert.ConvRefIdeal.τ).loc Cert.ConvRefIdeal.main_arg3))
      (m' ((c.tc : Thread Cert.ConvRefIdeal.nD Cert.ConvRefIdeal.τ).loc Cert.ConvRefIdeal.main_arg4))
      (m' ((c.tc : Thread Cert.ConvRefIdeal.nD Cert.ConvRefIdeal.τ).loc Cert.ConvRefIdeal.main_arg5))
      (m' ((c.tc : Thread Cert.ConvRefIdeal.nD Cert.ConvRefIdeal.τ).loc Cert.ConvRefIdeal.main_arg6)) = _
    rw [(hagree c).1, (hagree c).2.1, (hagree c).2.2.1, (hagree c).2.2.2.1, (hagree c).2.2.2.2.1, (hagree c).2.2.2.2.2.1, (hagree c).2.2.2.2.2.2]
    funext y
    rw [eq_ix3 y]
    exact Cert.ConvRefIdeal.Convolving.result _ _ _ _ _ _ _ _ _ _

theorem claim : Cert.Claim := ⟨Cert.Kernel.Gen.facts, Cert.KernelIdeal.Gen.facts, Cert.ReferenceIdeal.Gen.facts,
  Cert.Proj.Gen.facts, Cert.ProjIdeal.Gen.facts, Cert.ProjRefIdeal.Gen.facts,
  Cert.Merge.Gen.facts, Cert.MergeIdeal.Gen.facts, Cert.MergeRefIdeal.Gen.facts,
  Cert.Lora.Gen.facts, Cert.LoraIdeal.Gen.facts, Cert.LoraRefIdeal.Gen.facts,
  Cert.Heads.Gen.facts, Cert.HeadsIdeal.Gen.facts, Cert.HeadsRefIdeal.Gen.facts,
  Cert.Conv.Gen.facts, Cert.ConvIdeal.Gen.facts, Cert.ConvRefIdeal.Gen.facts,
  Cert.Pre_finite_heads.Gen.facts,
  frame_kernel, frame_kernel_ideal, frame_reference_ideal, frame_proj, frame_proj_ideal, frame_proj_ref, frame_merge, frame_merge_ideal, frame_merge_ref,
  frame_lora, frame_lora_ideal, frame_lora_ref, frame_heads, frame_heads_ideal, frame_heads_ideal_pre, frame_heads_ref, frame_heads_ref_pre, frame_conv, frame_conv_ideal, frame_conv_ref,
  preserves, algebraic, trivial, algebraic_proj, trivial, algebraic_merge, trivial, algebraic_lora, preserves_heads, algebraic_heads, trivial, algebraic_conv⟩

end Cert.Proof

end
